-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv448" .f32 0x3B124925#32 ((1 / 448 : ℝ) : EReal)
  ∧ IdealRules.sign_bit.Statement Cert.KernelIdeal.S256x2048 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v24) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S16x256x256 : Shape := ⟨3, ![16, 256, 256]⟩
abbrev S16x128 : Shape := ⟨2, ![16, 128]⟩
abbrev S16 : Shape := ⟨1, ![16]⟩
abbrev S_ : Shape := ⟨0, ![]⟩
abbrev S1 : Shape := ⟨1, ![1]⟩
abbrev S1x256x256 : Shape := ⟨3, ![1, 256, 256]⟩
abbrev S256x256 : Shape := ⟨2, ![256, 256]⟩
abbrev S1x256x2048 : Shape := ⟨3, ![1, 256, 2048]⟩
abbrev S1x1x1 : Shape := ⟨3, ![1, 1, 1]⟩
abbrev S1x128 : Shape := ⟨2, ![1, 128]⟩
abbrev S1x16x128 : Shape := ⟨3, ![1, 16, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S4096x2048, .f32⟩
  | .local _ .vmem, ⟨2, _⟩ => ⟨S256x2048, .f32⟩
  | .local _ .vmem, ⟨3, _⟩ => ⟨S4096x256, .bf16⟩
  | .local _ .vmem, ⟨4, _⟩ => ⟨S16x256x256, .bf16⟩
  | .local _ .vmem, ⟨5, _⟩ => ⟨S16x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [BitOps F]

abbrev grid0 : Pipeline.Grid := .none

@[reducible] def k0_t1_loop : Scf.Loop 32 :=
  let c1_i32_0 : BitVec 32 := 1#32
  let c15_i32 : BitVec 32 := 15#32
  let v4 : BitVec 32 := Scalar.addi c1_i32_0 c15_i32
  let c1_i32_1 : BitVec 32 := 1#32
  ⟨c1_i32_0, v4, c1_i32_1⟩
def k0_dev1 (d0 : Dev nD) (k0_t1 : Fin k0_t1_loop.trips) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let c1_i32_1 : BitVec 32 := 1#32
  let arg10 : BitVec 32 := Scf.iv c1_i32_0 c1_i32_1 k0_t1
  let v137 : BitVec 32 := Scalar.addi v2 arg10
  let c16_i32_80 : BitVec 32 := 16#32
  let v138 : BitVec 32 := Scalar.remsi v137 c16_i32_80
  let c1_i32_82 : BitVec 32 := 1#32
  let v139 : BitVec 32 := Scalar.muli v138 c1_i32_82
  let v140 : BitVec 32 := Scalar.addi c0_i32 v139
  v140.toNat
@[reducible] def k0_t2_loop : Scf.Loop 32 :=
  let c1_i32_7 : BitVec 32 := 1#32
  let c15_i32_8 : BitVec 32 := 15#32
  let v11 : BitVec 32 := Scalar.addi c1_i32_7 c15_i32_8
  let c1_i32_9 : BitVec 32 := 1#32
  ⟨c1_i32_7, v11, c1_i32_9⟩
def k0_off1 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let c1_i32_9 : BitVec 32 := 1#32
  let arg10 : BitVec 32 := Scf.iv c1_i32_7 c1_i32_9 k0_t2
  let v137 : BitVec 32 := Scalar.addi v2 arg10
  let c16_i32_80 : BitVec 32 := 16#32
  let v138 : BitVec 32 := Scalar.remsi v137 c16_i32_80
  ![v138.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let c0_i32_84 : BitVec 32 := 0#32
  ![v2.toNat, 0, 0]
def k0_off4 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let c1_i32_9 : BitVec 32 := 1#32
  let arg10 : BitVec 32 := Scf.iv c1_i32_7 c1_i32_9 k0_t2
  let v137 : BitVec 32 := Scalar.addi v2 arg10
  let c16_i32_80 : BitVec 32 := 16#32
  let v138 : BitVec 32 := Scalar.remsi v137 c16_i32_80
  let c256_i32_81 : BitVec 32 := 256#32
  let v139 : BitVec 32 := Scalar.muli v138 c256_i32_81
  let c0_i32_85 : BitVec 32 := 0#32
  ![v139.toNat, 0]
def k0_dev2 (d0 : Dev nD) (k0_t2 : Fin k0_t2_loop.trips) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let c1_i32_9 : BitVec 32 := 1#32
  let arg10 : BitVec 32 := Scf.iv c1_i32_7 c1_i32_9 k0_t2
  let v137 : BitVec 32 := Scalar.addi v2 arg10
  let c16_i32_80 : BitVec 32 := 16#32
  let v138 : BitVec 32 := Scalar.remsi v137 c16_i32_80
  let c1_i32_82 : BitVec 32 := 1#32
  let v140 : BitVec 32 := Scalar.muli v138 c1_i32_82
  let v141 : BitVec 32 := Scalar.addi c0_i32 v140
  v141.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v12 : BitVec 32 := Scalar.muli v2 c256_i32
  let v13 : Index := Scalar.indexCast v12
  let c0_11 : Index := 0#32
  ![v13.toNat, 0]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v15 : Index := Scalar.indexCast v2
  let c0_12 : Index := 0#32
  let c0_13 : Index := 0#32
  ![v15.toNat, 0, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_16 : BitVec 32 := 256#32
  let v22 : BitVec 32 := Scalar.muli v2 c256_i32_16
  let v23 : Index := Scalar.indexCast v22
  let c0_17 : Index := 0#32
  ![v23.toNat, 0]
@[reducible] def k0_t3_loop : Scf.Loop 32 :=
  let c1_i32_18 : BitVec 32 := 1#32
  let c15_i32_19 : BitVec 32 := 15#32
  let v28 : BitVec 32 := Scalar.addi c1_i32_18 c15_i32_19
  let c1_i32_20 : BitVec 32 := 1#32
  ⟨c1_i32_18, v28, c1_i32_20⟩
def k0_off8 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_80 : BitVec 32 := 16#32
  let c1_i32_18 : BitVec 32 := 1#32
  let c1_i32_20 : BitVec 32 := 1#32
  let arg10 : BitVec 32 := Scf.iv c1_i32_18 c1_i32_20 k0_t3
  let v137 : BitVec 32 := Scalar.subi c16_i32_80 arg10
  let v138 : BitVec 32 := Scalar.addi v2 v137
  let c16_i32_81 : BitVec 32 := 16#32
  let v139 : BitVec 32 := Scalar.remsi v138 c16_i32_81
  ![v139.toNat]
def k0_off9 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_80 : BitVec 32 := 16#32
  let c1_i32_18 : BitVec 32 := 1#32
  let c1_i32_20 : BitVec 32 := 1#32
  let arg10 : BitVec 32 := Scf.iv c1_i32_18 c1_i32_20 k0_t3
  let v137 : BitVec 32 := Scalar.subi c16_i32_80 arg10
  let v138 : BitVec 32 := Scalar.addi v2 v137
  let c16_i32_81 : BitVec 32 := 16#32
  let v139 : BitVec 32 := Scalar.remsi v138 c16_i32_81
  let c0_i32_83 : BitVec 32 := 0#32
  let c0_i32_84 : BitVec 32 := 0#32
  ![v139.toNat, 0, 0]
def k0_off10 (d0 : Dev nD) (k0_t3 : Fin k0_t3_loop.trips) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_80 : BitVec 32 := 16#32
  let c1_i32_18 : BitVec 32 := 1#32
  let c1_i32_20 : BitVec 32 := 1#32
  let arg10 : BitVec 32 := Scf.iv c1_i32_18 c1_i32_20 k0_t3
  let v137 : BitVec 32 := Scalar.subi c16_i32_80 arg10
  let v138 : BitVec 32 := Scalar.addi v2 v137
  let c16_i32_81 : BitVec 32 := 16#32
  let v139 : BitVec 32 := Scalar.remsi v138 c16_i32_81
  let v148 : Index := Scalar.indexCast v139
  let c0_87 : Index := 0#32
  let c0_88 : Index := 0#32
  ![v148.toNat, 0, 0]
def k0_off11 (d0 : Dev nD) (k0_t3 : Fin k0_t3_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_80 : BitVec 32 := 16#32
  let c1_i32_18 : BitVec 32 := 1#32
  let c1_i32_20 : BitVec 32 := 1#32
  let arg10 : BitVec 32 := Scf.iv c1_i32_18 c1_i32_20 k0_t3
  let v137 : BitVec 32 := Scalar.subi c16_i32_80 arg10
  let v138 : BitVec 32 := Scalar.addi v2 v137
  let c16_i32_81 : BitVec 32 := 16#32
  let v139 : BitVec 32 := Scalar.remsi v138 c16_i32_81
  let c256_i32_89 : BitVec 32 := 256#32
  let v151 : BitVec 32 := Scalar.muli v139 c256_i32_89
  let v152 : Index := Scalar.indexCast v151
  let c0_90 : Index := 0#32
  ![v152.toNat, 0]
@[reducible] def k0_t4_loop : Scf.Loop 32 :=
  let c1_i32_22 : BitVec 32 := 1#32
  let c15_i32_23 : BitVec 32 := 15#32
  let v30 : BitVec 32 := Scalar.addi c1_i32_22 c15_i32_23
  let c1_i32_24 : BitVec 32 := 1#32
  ⟨c1_i32_22, v30, c1_i32_24⟩
def k0_off12 (d0 : Dev nD) (k0_t4 : Fin k0_t4_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let c1_i32_24 : BitVec 32 := 1#32
  let arg10 : BitVec 32 := Scf.iv c1_i32_22 c1_i32_24 k0_t4
  let v137 : BitVec 32 := Scalar.addi v2 arg10
  let c16_i32_80 : BitVec 32 := 16#32
  let v138 : BitVec 32 := Scalar.remsi v137 c16_i32_80
  ![v138.toNat]
def k0_off13 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_22 : BitVec 32 := 1#32
  let c1_i32_24 : BitVec 32 := 1#32
  let arg10 : BitVec 32 := Scf.iv c1_i32_22 c1_i32_24 k0_t4
  let v137 : BitVec 32 := Scalar.addi v2 arg10
  let c16_i32_80 : BitVec 32 := 16#32
  let v138 : BitVec 32 := Scalar.remsi v137 c16_i32_80
  let c256_i32_81 : BitVec 32 := 256#32
  let v139 : BitVec 32 := Scalar.muli v138 c256_i32_81
  let c0_i32_82 : BitVec 32 := 0#32
  ![v139.toNat, 0]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_83 : BitVec 32 := 0#32
  let c0_i32_84 : BitVec 32 := 0#32
  ![v2.toNat, 0, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v37 : Index := Scalar.indexCast v2
  let c0_27 : Index := 0#32
  ![v37.toNat, 0]
@[reducible] def k0_t5_loop : Scf.Loop 32 :=
  let c1_i32_28 : BitVec 32 := 1#32
  let c15_i32_29 : BitVec 32 := 15#32
  let v41 : BitVec 32 := Scalar.addi c1_i32_28 c15_i32_29
  let c1_i32_30 : BitVec 32 := 1#32
  ⟨c1_i32_28, v41, c1_i32_30⟩
def k0_off16 (d0 : Dev nD) (k0_t5 : Fin k0_t5_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_28 : BitVec 32 := 1#32
  let c1_i32_30 : BitVec 32 := 1#32
  let arg10 : BitVec 32 := Scf.iv c1_i32_28 c1_i32_30 k0_t5
  let v137 : BitVec 32 := Scalar.addi v2 arg10
  let c16_i32_80 : BitVec 32 := 16#32
  let v138 : BitVec 32 := Scalar.remsi v137 c16_i32_80
  ![v138.toNat]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_82 : BitVec 32 := 0#32
  ![v2.toNat, 0]
def k0_dev3 (d0 : Dev nD) (k0_t5 : Fin k0_t5_loop.trips) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_28 : BitVec 32 := 1#32
  let c1_i32_30 : BitVec 32 := 1#32
  let arg10 : BitVec 32 := Scf.iv c1_i32_28 c1_i32_30 k0_t5
  let v137 : BitVec 32 := Scalar.addi v2 arg10
  let c16_i32_80 : BitVec 32 := 16#32
  let v138 : BitVec 32 := Scalar.remsi v137 c16_i32_80
  let c1_i32_81 : BitVec 32 := 1#32
  let v139 : BitVec 32 := Scalar.muli v138 c1_i32_81
  let v140 : BitVec 32 := Scalar.addi c0_i32 v139
  v140.toNat
@[reducible] def k0_t6_loop : Scf.Loop 32 :=
  let c1_i32_32 : BitVec 32 := 1#32
  let c15_i32_33 : BitVec 32 := 15#32
  let v42 : BitVec 32 := Scalar.addi c1_i32_32 c15_i32_33
  let c1_i32_34 : BitVec 32 := 1#32
  ⟨c1_i32_32, v42, c1_i32_34⟩
def k0_off19 (d0 : Dev nD) (k0_t6 : Fin k0_t6_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let c1_i32_34 : BitVec 32 := 1#32
  let arg10 : BitVec 32 := Scf.iv c1_i32_32 c1_i32_34 k0_t6
  let v137 : BitVec 32 := Scalar.addi v2 arg10
  let c16_i32_80 : BitVec 32 := 16#32
  let v138 : BitVec 32 := Scalar.remsi v137 c16_i32_80
  ![v138.toNat]
def k0_off20 (d0 : Dev nD) (k0_t6 : Fin k0_t6_loop.trips) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let c1_i32_34 : BitVec 32 := 1#32
  let arg10 : BitVec 32 := Scf.iv c1_i32_32 c1_i32_34 k0_t6
  let v137 : BitVec 32 := Scalar.addi v2 arg10
  let c16_i32_80 : BitVec 32 := 16#32
  let v138 : BitVec 32 := Scalar.remsi v137 c16_i32_80
  let c0_i32_82 : BitVec 32 := 0#32
  ![v138.toNat, 0]
@[reducible] def k0_t7_loop : Scf.Loop 32 :=
  let c1_i32_36 : BitVec 32 := 1#32
  let c15_i32_37 : BitVec 32 := 15#32
  let v43 : BitVec 32 := Scalar.addi c1_i32_36 c15_i32_37
  let c1_i32_38 : BitVec 32 := 1#32
  ⟨c1_i32_36, v43, c1_i32_38⟩
def k0_off21 (d0 : Dev nD) (k0_t7 : Fin k0_t7_loop.trips) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_36 : BitVec 32 := 1#32
  let c1_i32_38 : BitVec 32 := 1#32
  let arg10 : BitVec 32 := Scf.iv c1_i32_36 c1_i32_38 k0_t7
  let v137 : BitVec 32 := Scalar.addi v2 arg10
  let c16_i32_80 : BitVec 32 := 16#32
  let v138 : BitVec 32 := Scalar.remsi v137 c16_i32_80
  ![v138.toNat]
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_81 : BitVec 32 := 0#32
  ![v2.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "inv448" => some ((1 / 448 : ℝ) : EReal)
  | _ => none
-- ==== ReferenceIdeal.lean ====
abbrev S4096x4096 : Shape := ⟨2, ![4096, 4096]⟩
abbrev S4096x2048 : Shape := ⟨2, ![4096, 2048]⟩
abbrev S15 : Shape := ⟨1, ![15]⟩
abbrev S_ : Shape := ⟨0, ![]⟩
abbrev S4096x2048x1 : Shape := ⟨3, ![4096, 2048, 1]⟩
abbrev S1x1x15 : Shape := ⟨3, ![1, 1, 15]⟩
abbrev S4096x2048x15 : Shape := ⟨3, ![4096, 2048, 15]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S15, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048x1, .f32⟩
  | .hbm, ⟨13, _⟩ => ⟨S1x1x15, .f32⟩
  | .hbm, ⟨14, _⟩ => ⟨S4096x2048x15, .f32⟩
  | .hbm, ⟨15, _⟩ => ⟨S4096x2048x15, .f32⟩
  | .hbm, ⟨16, _⟩ => ⟨S4096x2048x15, .i1⟩
  | .hbm, ⟨17, _⟩ => ⟨S_, .f32⟩
  | .hbm, ⟨18, _⟩ => ⟨S15, .f32⟩
  | .hbm, ⟨19, _⟩ => ⟨S15, .f32⟩
  | .hbm, ⟨20, _⟩ => ⟨S_, .f32⟩
  | .hbm, ⟨21, _⟩ => ⟨S_, .f32⟩
  | .hbm, ⟨22, _⟩ => ⟨S4096x2048x15, .f32⟩
  | .hbm, ⟨23, _⟩ => ⟨S4096x2048x15, .f32⟩
  | .hbm, ⟨24, _⟩ => ⟨S4096x2048x15, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.Sched.lean ====
/-
The protocol between the sixteen devices, written down as a schedule of rounds.

Every device `c` holds one barrier cell and four arrays of sixteen DMA cells: `dcell 0 p c` counts the source side of
`c`'s activation copy to `p`, `dcell 1 j c` the landing of `j`'s activation copy on `c`, `dcell 2 p c` and `dcell 3 j c`
the same for the row of local maxima.

* Barrier cell of `c`: fifteen units, one from every other device `p`. With its unit `p` hands over its landing slot `c`
  and its row `c` of maxima, at any contents: the two places into which `c` copies.
* `dcell 0 p c`: `c` itself, the credit of one activation block; it hands `c` back the slab `p` of its rounded block.
* `dcell 1 j c`: the copy of device `j`; it hands over slot `j` at the final contents `commAll c`.
* `dcell 2 p c`: `c` itself, the credit of one row of maxima; it hands back share number `p` of `c`'s own row.
* `dcell 3 j c`: the copy of device `j`; it hands over row `j` at the final contents `amaxAll`.

A device signals its peers in the order `nbr c 0, nbr c 1, …`, copies in the same order, and waits for the landings in
the order `src c 0, src c 1, …`. A cell's own index (`j = c`) carries nothing.
-/
module

public import proofs.«01_k».proof.Proof.Gen.KernelIdeal
public import proofs.«01_k».proof.Proof.Gen.KernelIdeal.Skeleton
public import proofs.«01_k».proof.Proof.Gen.KernelIdeal.Launch
public import Mathlib.Algebra.Order.Interval.Finset.SuccPred
public import Mathlib.Data.Nat.SuccPred
public import Idealize.ShloMosaic.Lib.Pipeline.Launch
public import Idealize.ShloMosaic.Lib.Pipeline.Kit
public import Idealize.ShloMosaic.Lib.Pipeline.Value
public import Idealize.ShloMosaic.Lib.ShareLeaves
public import Idealize.ShloMosaic.Lib.ValueLayout
public import Idealize.ShloMosaic.Lib.Tactic

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F] [Named F]

/-! ## The resource algebra: the pipeline library's copy and this protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Peers -/

/-- The device signalled, and copied to, at trip `t`. -/
def nbr (c : Dev nD) (t : ℕ) : Dev nD := ⟨(c.val + t + 1) % 16, Nat.mod_lt _ (by decide)⟩
/-- The device whose activation block is waited for at trip `t`. -/
def src (c : Dev nD) (t : ℕ) : Dev nD := ⟨((c.val + 15) - t) % 16, Nat.mod_lt _ (by decide)⟩

theorem nbr_ne (c : Dev nD) : ∀ t : Fin 15, nbr c t ≠ c := by revert c; decide +kernel
theorem src_ne (c : Dev nD) : ∀ t : Fin 15, src c t ≠ c := by revert c; decide +kernel
theorem nbr_inj (c : Dev nD) : ∀ t t' : Fin 15, nbr c t = nbr c t' → t = t' := by revert c; decide +kernel
theorem src_inj (c : Dev nD) : ∀ t t' : Fin 15, src c t = src c t' → t = t' := by revert c; decide +kernel
theorem nbr_surj (c : Dev nD) : ∀ p, p ≠ c → ∃ t : Fin 15, nbr c t = p := by revert c; decide +kernel
theorem src_surj (c : Dev nD) : ∀ p, p ≠ c → ∃ t : Fin 15, src c t = p := by revert c; decide +kernel

theorem image_range {g : ℕ → Dev nD} (c : Dev nD) (hne : ∀ t : Fin 15, g t ≠ c) (hs : ∀ p, p ≠ c → ∃ t : Fin 15, g t = p) :
    (Finset.range 15).image g = Finset.univ.erase c := by
  ext p
  simp only [Finset.mem_image, Finset.mem_range, Finset.mem_erase, Finset.mem_univ, and_true]
  exact ⟨fun ⟨t, ht, e⟩ => e ▸ hne ⟨t, ht⟩, fun h => let ⟨t, e⟩ := hs p h; ⟨t.val, t.isLt, e⟩⟩

theorem image_nbr (c : Dev nD) : (Finset.range 15).image (nbr c) = Finset.univ.erase c := image_range c (nbr_ne c) (nbr_surj c)
theorem image_src (c : Dev nD) : (Finset.range 15).image (src c) = Finset.univ.erase c := image_range c (src_ne c) (src_surj c)
theorem injOn_nbr (c : Dev nD) : Set.InjOn (nbr c) (Finset.range 15 : Finset ℕ) := fun t ht t' ht' e =>
  congrArg Fin.val (nbr_inj c ⟨t, Finset.mem_range.mp ht⟩ ⟨t', Finset.mem_range.mp ht'⟩ e)
theorem injOn_src (c : Dev nD) : Set.InjOn (src c) (Finset.range 15 : Finset ℕ) := fun t ht t' ht' e =>
  congrArg Fin.val (src_inj c ⟨t, Finset.mem_range.mp ht⟩ ⟨t', Finset.mem_range.mp ht'⟩ e)

section Families

variable {M : Type} [URA M]

theorem bigSep_image_inj {g : ℕ → Dev nD} {s : Finset ℕ} (hg : Set.InjOn g s) (Φ : Dev nD → sProp M) :
    bigSep (s.image g) Φ = bigSep s fun t => Φ (g t) := by
  induction s using Finset.induction_on with
  | empty => rw [Finset.image_empty, bigSep_empty, bigSep_empty]
  | insert a s ha ih =>
    rw [Finset.image_insert, bigSep_insert (fun h => ?_), bigSep_insert ha, ih (hg.mono (Finset.coe_subset.mpr (Finset.subset_insert a s)))]
    obtain ⟨b, hb, e⟩ := Finset.mem_image.mp h
    exact ha (hg (Finset.mem_coe.mpr (Finset.mem_insert_of_mem hb)) (Finset.mem_coe.mpr (Finset.mem_insert_self a s)) e ▸ hb)

/-- A family over the other devices, in the order of the copies; -/
theorem bigSep_erase_nbr (c : Dev nD) (Φ : Dev nD → sProp M) :
    bigSep (Finset.univ.erase c) Φ = bigSep (Finset.range 15) fun t => Φ (nbr c t) := by
  rw [← image_nbr, bigSep_image_inj (injOn_nbr c)]
/-- and in the order of the landings. -/
theorem bigSep_erase_src (c : Dev nD) (Φ : Dev nD → sProp M) :
    bigSep (Finset.univ.erase c) Φ = bigSep (Finset.range 15) fun t => Φ (src c t) := by
  rw [← image_src, bigSep_image_inj (injOn_src c)]
theorem bigSep_nbr (c : Dev nD) (Φ : Dev nD → sProp M) :
    bigSep Finset.univ Φ = iprop(Φ c ∗ bigSep (Finset.range 15) fun t => Φ (nbr c t)) := by
  rw [← bigSep_erase_nbr]; exact bigSep_erase (Finset.mem_univ c)
theorem bigSep_src (c : Dev nD) (Φ : Dev nD → sProp M) :
    bigSep Finset.univ Φ = iprop(Φ c ∗ bigSep (Finset.range 15) fun t => Φ (src c t)) := by
  rw [← bigSep_erase_src]; exact bigSep_erase (Finset.mem_univ c)

/-- What is left of the trips from `k` on: trip `k`, and the trips after it. -/
theorem bigSep_todo {k : ℕ} (hk : k < 15) (Φ : ℕ → sProp M) :
    bigSep (Finset.Ico k 15) Φ = iprop(Φ k ∗ bigSep (Finset.Ico (k + 1) 15) Φ) := by
  rw [← Finset.insert_Ico_add_one_left_eq_Ico hk]
  exact bigSep_insert (by simp)
theorem bigSep_done (k : ℕ) (Φ : ℕ → sProp M) :
    bigSep (Finset.range (k + 1)) Φ = iprop(Φ k ∗ bigSep (Finset.range k) Φ) := by
  rw [Finset.range_add_one]; exact bigSep_insert Finset.notMem_range_self
theorem bigSep_todo_zero (Φ : ℕ → sProp M) : bigSep (Finset.Ico 0 15) Φ = bigSep (Finset.range 15) Φ := by
  rw [Nat.Ico_zero_eq_range]

end Families

/-! ## Cells -/

/-- Cell `j` of the DMA semaphore array number `k`. -/
def dq (k : Fin 4) (j : Dev nD) : DmaSem sig := ⟨3 + 16 * k.val + j.val, by have := k.isLt; have := j.isLt; show _ < 67; simp only [nD] at *; omega⟩
abbrev barS : Sem sig := (SemArray.scalar (sig.barrier 0 rfl) : Sems sig S_).sem
abbrev barCell (c : Dev nD) : GSem nD τ sig := ((c : Thread nD τ), .reg barS)
abbrev dcell (k : Fin 4) (j c : Dev nD) : GSem nD τ sig := ((c : Thread nD τ), .dma (dq k j))

abbrev osem : Fin 4 × Dev nD → SemLoc sig := fun kj => .dma (dq kj.1 kj.2)
abbrev csem : Option (Fin 4 × Dev nD) → SemLoc sig := fun | none => .reg barS | some kj => .dma (dq kj.1 kj.2)
abbrev kcell (ck : Dev nD × Option (Fin 4 × Dev nD)) : GSem nD τ sig := ((ck.1 : Thread nD τ), csem ck.2)

theorem dq_inj {k k' : Fin 4} {j j' : Dev nD} (h : dq k j = dq k' j') : k = k' ∧ j = j' := by
  have h1 := congrArg Fin.val h
  simp only [dq] at h1
  have := j.isLt; have := j'.isLt; simp only [nD] at *
  exact ⟨Fin.ext (by omega), Fin.ext (by omega)⟩

/-! ## Memrefs -/

theorem slab_inb : ∀ (j : Dev nD) (a : Fin 2), (![256 * j.val, 0] : Fin 2 → Nat) a + S256x256.size a ≤ S4096x256.size a := by decide +kernel
theorem slot_inb : ∀ (j : Dev nD) (a : Fin 3), (![j.val, 0, 0] : Fin 3 → Nat) a + S1x256x256.size a ≤ S16x256x256.size a := by decide +kernel
theorem row_inb : ∀ (j : Dev nD) (a : Fin 2), (![j.val, 0] : Fin 2 → Nat) a + S1x128.size a ≤ S16x128.size a := by decide +kernel
theorem wrow_inb : ∀ (j : Dev nD) (a : Fin 2), (![256 * j.val, 0] : Fin 2 → Nat) a + S256x2048.size a ≤ S4096x2048.size a := by decide +kernel

abbrev slabR (j : Dev nD) : Rect S4096x256 := Rect.unit (s := S4096x256) ![256 * j.val, 0] S256x256.size (slab_inb j)
abbrev slotR (j : Dev nD) : Rect S16x256x256 := Rect.unit (s := S16x256x256) ![j.val, 0, 0] S1x256x256.size (slot_inb j)
abbrev rowR (j : Dev nD) : Rect S16x128 := Rect.unit (s := S16x128) ![j.val, 0] S1x128.size (row_inb j)

abbrev aM : Memref sig .tc .vmem S4096x256 .f32 := Memref.whole cc0_stg0_0
abbrev wM : Memref sig .tc .vmem S4096x2048 .f32 := Memref.whole cc0_stg1_0
abbrev oM : Memref sig .tc .vmem S256x2048 .f32 := Memref.whole cc0_stg2_0
abbrev xM : Memref sig .tc .vmem S4096x256 .bf16 := Memref.whole cc0_scratch0
abbrev cM : Memref sig .tc .vmem S16x256x256 .bf16 := Memref.whole cc0_scratch1
abbrev mM : Memref sig .tc .vmem S16x128 .f32 := Memref.whole cc0_scratch2

abbrev slabM (j : Dev nD) : Memref sig .tc .vmem S256x256 .bf16 := xM.slice (slabR j) (fun _ => rfl)
abbrev slotM (j : Dev nD) : Memref sig .tc .vmem S256x256 .bf16 := (cM.slice (slotR j) (fun _ => rfl)).squeeze S256x256 squeezes_S1x256x256_S256x256
abbrev rowM (j : Dev nD) : Memref sig .tc .vmem S1x128 .f32 := mM.slice (rowR j) (fun _ => rfl)

/-- The credit of one activation block and of one row of maxima. -/
abbrev Nx : ℕ := (slotM (0 : Dev nD)).view.dmaCredit
abbrev Na : ℕ := (rowM (0 : Dev nD)).view.dmaCredit
theorem Nx_pos : 0 < Nx := View.dmaCredit_pos _ (by decide)
theorem Na_pos : 0 < Na := View.dmaCredit_pos _ (by decide)

/-! ## Contents -/

variable (X : Dev nD → Vec F S4096x256 .f32) (Wt : Dev nD → Vec F S4096x2048 .f32)

/-- Device `c`'s rounded block of activations. -/
def xbf (c : Dev nD) : Vec F S4096x256 .bf16 := k0_pay2 (X c)

def slabIx (j : Dev nD) (a : Fin 256) (b : Fin 256) : S4096x256.Idx :=
  ix2 (⟨256 * j.val + a.val, by have := j.isLt; simp only [nD] at this; have := a.isLt; omega⟩ : Fin 4096) b
def wrowIx (j : Dev nD) (a : Fin 256) (b : Fin 2048) : S4096x2048.Idx :=
  ix2 (⟨256 * j.val + a.val, by have := j.isLt; simp only [nD] at this; have := a.isLt; omega⟩ : Fin 4096) b

/-- Block `j` received by device `c`: the rows of `c` of device `j`'s rounded block. -/
def slotV (c j : Dev nD) : Vec F S1x256x256 .bf16 := fun i => xbf X j (slabIx c (i 1) (i 2))
/-- Row block `j` of the weights of device `c`. -/
def wV (c j : Dev nD) : Vec F S256x2048 .f32 := fun i => Wt c (wrowIx j (i 0) (i 1))
/-- All of the landing buffer of device `c` once everything has landed. -/
def commAll (c : Dev nD) : Vec F S16x256x256 .bf16 := fun i => xbf X (i 0 : Fin 16) (slabIx c (i 1) (i 2))

/-- The accumulator of device `c` before trip `t` of the landing loop. -/
def yAcc (c : Dev nD) : ℕ → FVec F S256x2048 .f32
  | 0 => k0_pay4 (slotV X c c) (wV Wt c c)
  | t + 1 => k0_pay5 (yAcc c t) (slotV X c (src c t)) (wV Wt c (src c t))
def yV (c : Dev nD) : FVec F S256x2048 .f32 := yAcc X Wt c 15

/-- The rows of local maxima of all devices. -/
def amaxAll : Vec F S16x128 .f32 := fun i => k0_pay6 (yV X Wt (i 0 : Fin 16)) (ix2 (0 : Fin 1) (i 1 : Fin 128))

/-- The result block of device `c`. -/
def outV (c : Dev nD) : FVec F S256x2048 .f32 :=
  let y := yV X Wt c
  let A := amaxAll X Wt
  k0_pay1 (k0_pay7 A) (k0_pay8 y A) (k0_pay9 y A) (k0_pay12 (k0_pay9 y A) k0_pay10 (k0_pay11 y A)) (k0_pay13 (k0_pay9 y A))

/-! ## Points-to facts -/

def slabP (c j : Dev nD) (f : Vec F S4096x256 .bf16) : sProp 𝕄 :=
  (slabM j).view.loc (c : Thread nD τ) ↦[(slabM j).view.set]{fullShare} f
def slotP (c j : Dev nD) (f : Vec F S16x256x256 .bf16) : sProp 𝕄 :=
  (slotM j).view.loc (c : Thread nD τ) ↦[(slotM j).view.set]{fullShare} f
def rowQ (q : PosShare TreeShare) (c j : Dev nD) (f : Vec F S16x128 .f32) : sProp 𝕄 :=
  (rowM j).view.loc (c : Thread nD τ) ↦[(rowM j).view.set]{q} f
abbrev rowP (c j : Dev nD) (f : Vec F S16x128 .f32) : sProp 𝕄 := rowQ fullShare c j f
/-- Share number `p` of a row. -/
abbrev lf (p : Dev nD) : PosShare TreeShare := ShareLeaves.leaf 4 fullShare p

omit [FloatOps F] [Named F] in
instance slabP_storable (c j : Dev nD) (f) : BI.Storable (upEmb : UEmb _ 𝕄) (slabP (F := F) c j f) := by unfold slabP; infer_instance
omit [FloatOps F] [Named F] in
instance slotP_storable (c j : Dev nD) (f) : BI.Storable (upEmb : UEmb _ 𝕄) (slotP (F := F) c j f) := by unfold slotP; infer_instance
omit [FloatOps F] [Named F] in
instance rowQ_storable (q) (c j : Dev nD) (f) : BI.Storable (upEmb : UEmb _ 𝕄) (rowQ (F := F) q c j f) := by unfold rowQ; infer_instance

/-! ## The schedule -/

/-- What device `p` hands device `c` with its barrier unit. -/
def barPay (c p : Dev nD) : sProp 𝕄 := iprop((∃ f, slotP (F := F) p c f) ∗ ∃ f, rowP (F := F) p c f)
/-- The payload of cell `j` of array `k` on device `c`. -/
def dmaPay (k : ℕ) (j c : Dev nD) : sProp 𝕄 :=
  if k = 0 then slabP c j (xbf X c) else if k = 1 then slotP c j (commAll X c)
  else if k = 2 then rowQ (lf j) c c (amaxAll X Wt) else rowP c j (amaxAll X Wt)

omit [FloatOps F] [Named F] in
instance barPay_storable (c p : Dev nD) : BI.Storable (upEmb : UEmb _ 𝕄) (barPay (F := F) c p) := by unfold barPay; infer_instance
instance dmaPay_storable (k : ℕ) (j c : Dev nD) : BI.Storable (upEmb : UEmb _ 𝕄) (dmaPay (F := F) X Wt k j c) := by
  unfold dmaPay; (repeat' split) <;> infer_instance

def ixOf (q : DmaSem sig) : Dev nD := ⟨(q.val - 3) % 16, Nat.mod_lt _ (by decide)⟩
def kdOf (q : DmaSem sig) : ℕ := (q.val - 3) / 16
theorem ixOf_dq (k : Fin 4) (j : Dev nD) : ixOf (dq k j) = j := by
  have := j.isLt; simp only [nD] at this
  exact Fin.ext (by simp only [ixOf, dq]; omega)
theorem kdOf_dq (k : Fin 4) (j : Dev nD) : kdOf (dq k j) = k.val := by
  have := j.isLt; simp only [nD] at this
  simp only [kdOf, dq]; omega
theorem three_le_dq (k : Fin 4) (j : Dev nD) : 3 ≤ (dq k j).val := by simp only [dq]; omega

def credOf (k : ℕ) : ℕ := if k < 2 then Nx else Na
theorem credOf_pos (k : ℕ) : 0 < credOf k := by unfold credOf; split; exacts [Nx_pos, Na_pos]

def dutiesAt (c : Dev nD) : SemLoc sig → Finset (Dev nD)
  | .reg _ => Finset.univ.erase c
  | .dma q => if 3 ≤ q.val then ({ixOf q} : Finset (Dev nD)).erase c else ∅
def amountAt : SemLoc sig → ℕ
  | .reg _ => 1
  | .dma q => credOf (kdOf q)
def payAt (c d : Dev nD) : SemLoc sig → sProp 𝕄
  | .reg _ => barPay c d
  | .dma q => dmaPay X Wt (kdOf q) (ixOf q) c

/-- One round for every cell. -/
def netRd : Rounds.Schedule (GSem nD τ sig) (Dev nD) 𝕄 where
  duties g r := if r = 0 ∧ g.1.2 = .tc then dutiesAt g.1.1 g.2 else ∅
  unitless _ := False
  amount g _ _ := amountAt g.2
  payload g _ d := payAt X Wt g.1.1 d g.2
  amount_pos g _ _ _ := by
    obtain ⟨t, s⟩ := g
    cases s
    · exact Nat.one_pos
    · exact credOf_pos _

instance netRd_payload_storable (g : GSem nD τ sig) (r : ℕ) (d : Dev nD) :
    BI.Storable (upEmb : UEmb _ 𝕄) ((netRd (F := F) X Wt).payload g r d) := by
  obtain ⟨t, s⟩ := g
  cases s <;> (dsimp only [netRd, payAt]; infer_instance)

section Sched
variable (c : Dev nD)

theorem duties_zero (s : SemLoc sig) : (netRd (F := F) X Wt).duties ((c : Thread nD τ), s) 0 = dutiesAt c s := by
  dsimp only [netRd]; exact if_pos ⟨rfl, rfl⟩
theorem duties_bar : (netRd (F := F) X Wt).duties (barCell c) 0 = Finset.univ.erase c := duties_zero X Wt c _
theorem duties_dma (k : Fin 4) {j : Dev nD} (h : j ≠ c) : (netRd (F := F) X Wt).duties (dcell k j c) 0 = {j} := by
  rw [duties_zero]
  show (if 3 ≤ (dq k j).val then ({ixOf (dq k j)} : Finset (Dev nD)).erase c else ∅) = {j}
  rw [if_pos (three_le_dq k j), ixOf_dq, Finset.erase_eq_of_notMem (by rw [Finset.mem_singleton]; exact fun e => h e.symm)]
theorem duties_own (k : Fin 4) (r : ℕ) : (netRd (F := F) X Wt).duties (dcell k c c) r = ∅ := by
  dsimp only [netRd]
  split
  · show (if 3 ≤ (dq k c).val then ({ixOf (dq k c)} : Finset (Dev nD)).erase c else ∅) = ∅
    rw [if_pos (three_le_dq k c), ixOf_dq]; simp
  · rfl
theorem duties_later (g : GSem nD τ sig) : ∀ r, 1 ≤ r → (netRd (F := F) X Wt).duties g r = ∅ :=
  fun r hr => if_neg fun h => by omega

theorem amount_bar (d : Dev nD) : (netRd (F := F) X Wt).amount (barCell c) 0 d = 1 := rfl
theorem amount_dma (k : Fin 4) (j d : Dev nD) : (netRd (F := F) X Wt).amount (dcell k j c) 0 d = credOf k.val := by
  show credOf (kdOf (dq k j)) = _; rw [kdOf_dq]

theorem expect_bar : (netRd (F := F) X Wt).expect (barCell c) 0 = 15 := by
  unfold Schedule.expect Schedule.amountOf
  rw [duties_bar, Finset.sum_congr rfl fun d _ => amount_bar X Wt c d, Finset.sum_const, Finset.card_erase_of_mem (Finset.mem_univ c)]
  rfl
theorem expect_dma (k : Fin 4) {j : Dev nD} (h : j ≠ c) : (netRd (F := F) X Wt).expect (dcell k j c) 0 = credOf k.val := by
  unfold Schedule.expect Schedule.amountOf; rw [duties_dma X Wt c k h, Finset.sum_singleton, amount_dma]

theorem payload_bar (d : Dev nD) : (netRd (F := F) X Wt).payload (barCell c) 0 d = barPay c d := rfl
theorem payload_dma (k : Fin 4) (j d : Dev nD) : (netRd (F := F) X Wt).payload (dcell k j c) 0 d = dmaPay X Wt k.val j c := by
  show dmaPay X Wt (kdOf (dq k j)) (ixOf (dq k j)) c = _; rw [kdOf_dq, ixOf_dq]

/-- The barrier's round, all of it: every other device's landing slot and row. -/
theorem rest_bar : bigSep ((netRd (F := F) X Wt).duties (barCell c) 0 \ ∅) (fun d => (netRd (F := F) X Wt).payload (barCell c) 0 d)
    = bigSep (Finset.range 15) fun t => barPay (F := F) c (nbr c t) := by
  rw [Finset.sdiff_empty, duties_bar, ← bigSep_erase_nbr c (fun p => barPay (F := F) c p)]; rfl
theorem rest_dma (k : Fin 4) {j : Dev nD} (h : j ≠ c) :
    bigSep ((netRd (F := F) X Wt).duties (dcell k j c) 0 \ ∅) (fun d => (netRd (F := F) X Wt).payload (dcell k j c) 0 d) = dmaPay X Wt k.val j c := by
  rw [Finset.sdiff_empty, duties_dma X Wt c k h, bigSep_singleton, payload_dma]

end Sched

/-! ## What each device owes at launch, and the order of the waits -/

/-- The units of `f` for the peers of the trips from `k` on. -/
def pend (f : Dev nD → CellTallies nD τ sig Unit) (c : Dev nD) (k : ℕ) : CellTallies nD τ sig Unit := ∑ t ∈ Finset.Ico k 15, f (nbr c t)
theorem pend_step (f : Dev nD → CellTallies nD τ sig Unit) (c : Dev nD) {k : ℕ} (hk : k < 15) : pend f c k = pend f c (k + 1) + f (nbr c k) := by
  unfold pend; rw [← Finset.insert_Ico_add_one_left_eq_Ico hk, Finset.sum_insert (by simp), add_comm]
theorem pend_end (f : Dev nD → CellTallies nD τ sig Unit) (c : Dev nD) : pend f c 15 = 0 := by
  unfold pend; rw [Finset.Ico_self, Finset.sum_empty]

def oBar (p : Dev nD) : CellTallies nD τ sig Unit := tallyAt (barCell p) () 1
def oRecv (c p : Dev nD) : CellTallies nD τ sig Unit := tallyAt (dcell 1 c p) () Nx
def oArecv (c p : Dev nD) : CellTallies nD τ sig Unit := tallyAt (dcell 3 c p) () Na

def O₂ (c : Dev nD) : CellTallies nD τ sig Unit := pend (oArecv c) c 0
def O₁ (c : Dev nD) : CellTallies nD τ sig Unit := pend (oRecv c) c 0 + O₂ c
def O₀ (c : Dev nD) : CellTallies nD τ sig Unit := pend oBar c 0 + O₁ c

def L (g : GSem nD τ sig) : Finset Unit := if g.1.2 = .tc then {()} else ∅
/-- The barrier at 1, the landings of activations at 2, the landings of maxima at 3, everything else at 0. -/
def lvS : SemLoc sig → ℕ
  | .reg _ => 1
  | .dma q => if kdOf q = 1 then 2 else if kdOf q = 3 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lvS_dq (k : Fin 4) (j : Dev nD) : lvS (.dma (dq k j)) = if k.val = 1 then 2 else if k.val = 3 then 3 else 0 := by
  simp only [lvS, kdOf_dq]

theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h
theorem pend_pos {f : Dev nD → CellTallies nD τ sig Unit} {c : Dev nD} {k : ℕ} {g : GSem nD τ sig} {u : Unit} (h : 0 < pend f c k g u) :
    ∃ p, 0 < f p g u := by
  unfold pend at h
  rw [Finset.sum_apply, Finsupp.finset_sum_apply] at h
  obtain ⟨t, -, ht⟩ := Finset.exists_ne_zero_of_sum_ne_zero (Nat.pos_iff_ne_zero.mp h)
  exact ⟨nbr c t, Nat.pos_of_ne_zero ht⟩

theorem O₂_pos {c : Dev nD} {g : GSem nD τ sig} {u : Unit} (h : 0 < O₂ c g u) : ∃ p, g = dcell 3 c p := by
  obtain ⟨p, hp⟩ := pend_pos h; exact ⟨p, tally_pos hp⟩
theorem O₁_pos {c : Dev nD} {g : GSem nD τ sig} {u : Unit} (h : 0 < O₁ c g u) : ∃ p, g = dcell 1 c p ∨ g = dcell 3 c p := by
  unfold O₁ at h
  rw [Pi.add_apply, Finsupp.add_apply] at h
  rcases Nat.eq_zero_or_pos (pend (oRecv c) c 0 g u) with h0 | h0
  · obtain ⟨p, hp⟩ := O₂_pos (by omega : 0 < O₂ c g u); exact ⟨p, Or.inr hp⟩
  · obtain ⟨p, hp⟩ := pend_pos h0; exact ⟨p, Or.inl (tally_pos hp)⟩
theorem O₀_pos {c : Dev nD} {g : GSem nD τ sig} {u : Unit} (h : 0 < O₀ c g u) : ∃ p, g = barCell p ∨ g = dcell 1 c p ∨ g = dcell 3 c p := by
  unfold O₀ at h
  rw [Pi.add_apply, Finsupp.add_apply] at h
  rcases Nat.eq_zero_or_pos (pend oBar c 0 g u) with h0 | h0
  · obtain ⟨p, hp⟩ := O₁_pos (by omega : 0 < O₁ c g u); exact ⟨p, Or.inr hp⟩
  · obtain ⟨p, hp⟩ := pend_pos h0; exact ⟨p, Or.inl (tally_pos hp)⟩

omit [FloatOps F] [Named F] in
/-- A device may wait on a cell below everything it owes. -/
theorem mayWait_below (c : Dev nD) (sm : SemLoc sig) (O : CellTallies nD τ sig Unit)
    (h : ∀ g u, 0 < O g u → g.1.2 = .tc ∧ lvS sm < lvS g.2) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

theorem below₀ (c : Dev nD) (sm : SemLoc sig) (hs : lvS sm = 0) : ∀ g u, 0 < O₀ c g u → g.1.2 = .tc ∧ lvS sm < lvS g.2 := by
  intro g u h
  obtain ⟨p, rfl | rfl | rfl⟩ := O₀_pos h
  · exact ⟨rfl, by rw [hs]; exact Nat.one_pos⟩
  · exact ⟨rfl, by rw [hs, lvS_dq]; decide⟩
  · exact ⟨rfl, by rw [hs, lvS_dq]; decide⟩
theorem below₁ (c : Dev nD) : ∀ g u, 0 < O₁ c g u → g.1.2 = .tc ∧ lvS (.reg barS) < lvS g.2 := by
  intro g u h
  obtain ⟨p, rfl | rfl⟩ := O₁_pos h
  · exact ⟨rfl, by rw [lvS_dq]; decide⟩
  · exact ⟨rfl, by rw [lvS_dq]; decide⟩
theorem below₂ (c : Dev nD) (sm : SemLoc sig) (hs : lvS sm < 3) : ∀ g u, 0 < O₂ c g u → g.1.2 = .tc ∧ lvS sm < lvS g.2 := by
  intro g u h
  obtain ⟨p, rfl⟩ := O₂_pos h
  exact ⟨rfl, by rw [lvS_dq]; exact hs⟩

end Cert.KernelIdeal.Net

end
-- ==== Proof.Slots.lean ====
/-
The three exchange buffers cut into the pieces the copies move: sixteen slabs, sixteen landing slots, sixteen rows of
maxima. Each piece is the set of indices with one coordinate fixed; the landed contents of a piece are those of the
final buffer restricted to it.
-/
module

public import proofs.«01_k».proof.Proof.Sched

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3)

variable {F : FTy → Type} [FloatOps F] [Named F]

local notation "𝕄" => MT nD τ sig Unit (Elt F) ℕ UU ℕ

/-! ## The pieces as index sets -/

theorem mem_slab (j : Dev nD) (i : S4096x256.Idx) : i ∈ (slabM j).view.set ↔ (i 0).val / 256 = j.val := by
  show i ∈ ((View.whole cc0_scratch0).slice (slabR j)).set ↔ _
  rw [View.set_slice_whole]
  refine Rect.mem_set_unit.trans ?_
  have h1 : (i 1).val < 256 := (i 1).isLt
  constructor
  · intro h; have h0 : 256 * j.val ≤ (i 0).val ∧ (i 0).val < 256 * j.val + 256 := h 0; omega
  · intro h a
    match a with
    | ⟨0, _⟩ => show 256 * j.val ≤ (i 0).val ∧ (i 0).val < 256 * j.val + 256; omega
    | ⟨1, _⟩ => show 0 ≤ (i 1).val ∧ (i 1).val < 0 + 256; omega

theorem set_slot (j : Dev nD) : ((slotM j).view.set : Finset S16x256x256.Idx) = ((View.whole cc0_scratch1).slice (slotR j)).set := View.set_reshape _ _
theorem mem_slot (j : Dev nD) (i : S16x256x256.Idx) : i ∈ (slotM j).view.set ↔ (i 0).val = j.val := by
  show i ∈ ((slotM j).view.set : Finset S16x256x256.Idx) ↔ _
  rw [set_slot, View.set_slice_whole]
  refine Rect.mem_set_unit.trans ?_
  have h1 : (i 1).val < 256 := (i 1).isLt
  have h2 : (i 2).val < 256 := (i 2).isLt
  constructor
  · intro h; have h0 : j.val ≤ (i 0).val ∧ (i 0).val < j.val + 1 := h 0; omega
  · intro h a
    match a with
    | ⟨0, _⟩ => show j.val ≤ (i 0).val ∧ (i 0).val < j.val + 1; omega
    | ⟨1, _⟩ => show 0 ≤ (i 1).val ∧ (i 1).val < 0 + 256; omega
    | ⟨2, _⟩ => show 0 ≤ (i 2).val ∧ (i 2).val < 0 + 256; omega

theorem mem_row (j : Dev nD) (i : S16x128.Idx) : i ∈ (rowM j).view.set ↔ (i 0).val = j.val := by
  show i ∈ ((View.whole cc0_scratch2).slice (rowR j)).set ↔ _
  rw [View.set_slice_whole]
  refine Rect.mem_set_unit.trans ?_
  have h1 : (i 1).val < 128 := (i 1).isLt
  constructor
  · intro h; have h0 : j.val ≤ (i 0).val ∧ (i 0).val < j.val + 1 := h 0; omega
  · intro h a
    match a with
    | ⟨0, _⟩ => show j.val ≤ (i 0).val ∧ (i 0).val < j.val + 1; omega
    | ⟨1, _⟩ => show 0 ≤ (i 1).val ∧ (i 1).val < 0 + 128; omega

/-! ## Cutting and joining -/

section Cut

variable {ℓ : Loc nD τ sig} (K : Dev nD → Finset (Idx ℓ)) (key : Idx ℓ → Dev nD) (hK : ∀ j i, i ∈ K j ↔ key i = j)
include hK

theorem cover : Finset.univ.biUnion K = Finset.univ := by
  ext i; simp only [Finset.mem_biUnion, Finset.mem_univ, true_and, iff_true]; exact ⟨key i, (hK _ _).mpr rfl⟩
theorem apart : ∀ t ∈ (Finset.univ : Finset (Dev nD)), ∀ t' ∈ (Finset.univ : Finset (Dev nD)), t ≠ t' → Disjoint (K t) (K t') := by
  intro t _ t' _ hne
  exact Finset.disjoint_left.mpr fun i h h' => hne (((hK _ _).mp h).symm.trans ((hK _ _).mp h'))

omit [FloatOps F] [Named F] in
theorem cut_pieces (q : PosShare TreeShare) (f : Buf (Elt F) ℓ) : (ℓ ↦{q} f : sProp 𝕄) = bigSep Finset.univ fun j => ℓ ↦[K j]{q} f := by
  rw [← pointsTo_biUnion Finset.univ K (apart K key hK), cover K key hK]
omit [FloatOps F] [Named F] in
theorem join_pieces (q : PosShare TreeShare) (fs : Dev nD → Buf (Elt F) ℓ) :
    bigSep Finset.univ (fun j => ℓ ↦[K j]{q} fs j) ⊢ (iprop(∃ g, ℓ ↦{q} g) : sProp 𝕄) := by
  have h := pointsTo_biUnion_join (Ix := Unit) (Name := ℕ) (U := UU) (Lvl := ℕ) (q := q) Finset.univ K fs (fs 0) (apart K key hK)
  rw [cover K key hK] at h
  refine h.trans ?_
  iintro ⟨%g, -, H⟩
  iexists g; iexact H

end Cut

def keySlab (i : S4096x256.Idx) : Dev nD := ⟨(i 0).val / 256, by have : (i 0).val < 4096 := (i 0).isLt; show _ < 16; omega⟩
def keySlot (i : S16x256x256.Idx) : Dev nD := ⟨(i 0).val, (i 0).isLt⟩
def keyRow (i : S16x128.Idx) : Dev nD := ⟨(i 0).val, (i 0).isLt⟩
theorem slab_key (j : Dev nD) (i : S4096x256.Idx) : i ∈ (slabM j).view.set ↔ keySlab i = j :=
  (mem_slab j i).trans ⟨fun h => Fin.ext h, fun h => congrArg Fin.val h⟩
theorem slot_key (j : Dev nD) (i : S16x256x256.Idx) : i ∈ (slotM j).view.set ↔ keySlot i = j :=
  (mem_slot j i).trans ⟨fun h => Fin.ext h, fun h => congrArg Fin.val h⟩
theorem row_key (j : Dev nD) (i : S16x128.Idx) : i ∈ (rowM j).view.set ↔ keyRow i = j :=
  (mem_row j i).trans ⟨fun h => Fin.ext h, fun h => congrArg Fin.val h⟩

omit [FloatOps F] [Named F] in
theorem slab_cut (c : Dev nD) (f : Vec F S4096x256 .bf16) :
    ((((c : Thread nD τ).loc cc0_scratch0) ↦{fullShare} f) : sProp 𝕄) = bigSep Finset.univ fun j => slabP c j f :=
  cut_pieces (ℓ := (c : Thread nD τ).loc cc0_scratch0) (fun j => (slabM j).view.set) keySlab slab_key fullShare f
omit [FloatOps F] [Named F] in
theorem slot_cut (c : Dev nD) (f : Vec F S16x256x256 .bf16) :
    ((((c : Thread nD τ).loc cc0_scratch1) ↦{fullShare} f) : sProp 𝕄) = bigSep Finset.univ fun j => slotP c j f :=
  cut_pieces (ℓ := (c : Thread nD τ).loc cc0_scratch1) (fun j => (slotM j).view.set) keySlot slot_key fullShare f
omit [FloatOps F] [Named F] in
theorem row_cut (c : Dev nD) (f : Vec F S16x128 .f32) :
    ((((c : Thread nD τ).loc cc0_scratch2) ↦{fullShare} f) : sProp 𝕄) = bigSep Finset.univ fun j => rowP c j f :=
  cut_pieces (ℓ := (c : Thread nD τ).loc cc0_scratch2) (fun j => (rowM j).view.set) keyRow row_key fullShare f
omit [FloatOps F] [Named F] in
/-- A row as its sixteen shares. -/
theorem row_shares (c j : Dev nD) (f : Vec F S16x128 .f32) : (rowP c j f : sProp 𝕄) = bigSep Finset.univ fun p : Dev nD => rowQ (lf p) c j f :=
  ShareLeaves.pointsTo_leaves (ℓ := (c : Thread nD τ).loc cc0_scratch2) (rowM j).view.set f 4 fullShare

/-! ## Contents -/

variable (X : Dev nD → Vec F S4096x256 .f32) (Wt : Dev nD → Vec F S4096x2048 .f32)

theorem emb_slab (j : Dev nD) (a b : Fin 256) : (slabM j).view.emb (ix2 a b) = slabIx j a b := by
  funext d
  match d with
  | ⟨0, _⟩ => exact Fin.ext (show 256 * j.val + 1 * a.val = 256 * j.val + a.val by omega)
  | ⟨1, _⟩ => exact Fin.ext (show 0 + 1 * b.val = b.val by omega)

theorem emb_slot3 (j : Dev nD) (z : Fin 1) (a b : Fin 256) :
    ((View.whole cc0_scratch1).slice (slotR j)).emb (ix3 z a b) = (ix3 (⟨j.val, j.isLt⟩ : Fin 16) a b : S16x256x256.Idx) := by
  funext d
  match d with
  | ⟨0, _⟩ => exact Fin.ext (show j.val + 1 * z.val = j.val by omega)
  | ⟨1, _⟩ => exact Fin.ext (show 0 + 1 * a.val = a.val by omega)
  | ⟨2, _⟩ => exact Fin.ext (show 0 + 1 * b.val = b.val by omega)

theorem emb_slot (j : Dev nD) (a b : Fin 256) : (slotM j).view.emb (ix2 a b) = (ix3 (⟨j.val, j.isLt⟩ : Fin 16) a b : S16x256x256.Idx) := by
  show ((View.whole cc0_scratch1).slice (slotR j)).emb (Shape.reshapeEquiv _ (ix2 a b)) = _
  rw [ValueIdx.reshapeEquiv_ix2_1ab]
  exact emb_slot3 j _ a b

/-- A landed activation block. -/
theorem land_slot (c p : Dev nD) (fd : Vec F S16x256x256 .bf16) :
    ((slotM c).view.loc (p : Thread nD τ) ↦[(slotM c).view.set]{fullShare}
        ((slotM c).view.write (Elt F) fd ((slabM p).view.read (Elt F) (xbf X c)) Finset.univ) : sProp 𝕄) = slotP p c (commAll X p) := by
  unfold slotP
  refine pointsTo_congr fun i hi => ?_
  obtain ⟨y, rfl⟩ := View.exists_emb_of_mem_set _ hi
  have e1 : (slotM c).view.emb y = (ix3 (⟨c.val, c.isLt⟩ : Fin 16) (y 0 : Fin 256) (y 1 : Fin 256) : S16x256x256.Idx) :=
    (congrArg (slotM c).view.emb (eq_ix2 y)).trans (emb_slot c (y 0) (y 1))
  have e2 : (slabM p).view.emb y = slabIx p (y 0) (y 1) := (congrArg (slabM p).view.emb (eq_ix2 y)).trans (emb_slab p (y 0) (y 1))
  refine (View.write_emb_of_mem _ _ (Finset.mem_univ _)).trans (Eq.trans ?_ (congrArg (commAll X p) e1).symm)
  exact congrArg (xbf X c) e2

omit [FloatOps F] [Named F] in
/-- A landed row of maxima. -/
theorem land_row (c p : Dev nD) (fd g : Vec F S16x128 .f32) :
    ((rowM c).view.loc (p : Thread nD τ) ↦[(rowM c).view.set]{fullShare}
        ((rowM c).view.write (Elt F) fd ((rowM c).view.read (Elt F) g) Finset.univ) : sProp 𝕄) = rowP p c g := by
  unfold rowP rowQ
  refine pointsTo_congr fun i hi => ?_
  obtain ⟨y, rfl⟩ := View.exists_emb_of_mem_set _ hi
  refine (View.write_emb_of_mem _ _ (Finset.mem_univ _)).trans ?_
  rfl

/-- The slab `j` of device `c`'s rounded block, by itself. -/
def slabV (c j : Dev nD) : Vec F S256x256 .bf16 := fun i => xbf X c (slabIx j (i 0) (i 1))

/-- What a load of slot `j` reads off the final landing buffer; -/
theorem read_slot (c j : Dev nD) : (cM.access (slotR j)).read (Elt F) (commAll X c) = slotV X c j := by
  refine funext fun (i : S1x256x256.Idx) => ?_
  exact congrArg (commAll X c) ((congrArg ((View.whole cc0_scratch1).slice (slotR j)).emb (eq_ix3 i)).trans (emb_slot3 j (i 0) (i 1) (i 2)))
/-- of slab `c` off the rounded block; -/
theorem read_slab (c j : Dev nD) : (xM.access (slabR j)).read (Elt F) (xbf X c) = slabV X c j := by
  refine funext fun (i : S256x256.Idx) => ?_
  exact congrArg (xbf X c) ((congrArg (slabM j).view.emb (eq_ix2 i)).trans (emb_slab j (i 0) (i 1)))
/-- of row block `j` off the weights. -/
theorem read_w (c j : Dev nD) :
    (wM.access (Rect.unit (s := S4096x2048) ![256 * j.val, 0] S256x2048.size (wrow_inb j))).read (Elt F) (Wt c) = wV Wt c j := by
  funext i
  rw [View.read_apply, eq_ix2 i]
  show _root_.cast _ (Wt c _) = Wt c (wrowIx j (i 0) (i 1))
  refine congrArg (Wt c) (funext fun d => ?_)
  match d with
  | ⟨0, _⟩ => exact Fin.ext (show 256 * j.val + 1 * (i 0).val = 256 * j.val + (i 0).val by omega)
  | ⟨1, _⟩ => exact Fin.ext (show 0 + 1 * (i 1).val = (i 1).val by omega)

theorem pay3_apply (v : Vec F S256x256 .bf16) (z : Fin 1) (a b : Fin 256) : (k0_pay3 v : FVec F S1x256x256 .bf16) (ix3 z a b) = v (ix2 a b) := by
  unfold k0_pay3
  refine shapeCast_apply _ _ _ _ ?_
  rw [Shape.rowMajor_val_three, Shape.rowMajor_val_two]
  show a.val * 256 + b.val = (z.val * 256 + a.val) * 256 + b.val
  have := z.isLt; omega

/-- The device's own slot, stored. -/
theorem store_slot (c : Dev nD) (f : Vec F S16x256x256 .bf16) :
    ((slotM c).view.loc (c : Thread nD τ) ↦[(slotM c).view.set]{fullShare}
        ((cM.access (slotR c)).write (Elt F) f (k0_pay3 (slabV X c c)) Finset.univ) : sProp 𝕄) = slotP c c (commAll X c) := by
  unfold slotP
  refine pointsTo_congr fun i hi => ?_
  have hi' : i ∈ ((View.whole cc0_scratch1).slice (slotR c)).set := (set_slot c) ▸ hi
  obtain ⟨y, rfl⟩ := View.exists_emb_of_mem_set _ hi'
  refine (View.write_emb_of_mem _ _ (Finset.mem_univ _)).trans ?_
  have e1 : ((View.whole cc0_scratch1).slice (slotR c)).emb y = (ix3 (⟨c.val, c.isLt⟩ : Fin 16) (y 1 : Fin 256) (y 2 : Fin 256) : S16x256x256.Idx) :=
    (congrArg ((View.whole cc0_scratch1).slice (slotR c)).emb (eq_ix3 y)).trans (emb_slot3 c (y 0) (y 1) (y 2))
  refine Eq.trans ?_ (congrArg (commAll X c) e1).symm
  exact (congrArg (k0_pay3 (slabV X c c)) (eq_ix3 y)).trans (pay3_apply _ (y 0) (y 1) (y 2))
omit [FloatOps F] [Named F] in
theorem ix2_beta {m n : ℕ} {α : Type} (u : Fin m → Fin n → α) (a : Fin m) (b : Fin n) :
    (fun i : (⟨2, ![m, n]⟩ : Shape).Idx => u (i 0) (i 1)) (ix2 a b) = u a b := rfl
theorem amaxAll_ix2 (c : Dev nD) (b : Fin 128) :
    amaxAll X Wt (ix2 (⟨c.val, c.isLt⟩ : Fin 16) b) = k0_pay6 (yV X Wt c) (ix2 (0 : Fin 1) b) :=
  ix2_beta (fun (d : Fin 16) b => k0_pay6 (yV X Wt d) (ix2 (0 : Fin 1) b)) _ b
omit [FloatOps F] [Named F] in
theorem store_row_of (c : Dev nD) (f g : Vec F S16x128 .f32) (w : Vec F S1x128 .f32)
    (hg : ∀ b : Fin 128, g (ix2 (⟨c.val, c.isLt⟩ : Fin 16) b) = w (ix2 (0 : Fin 1) b)) :
    ((rowM c).view.loc (c : Thread nD τ) ↦[(rowM c).view.set]{fullShare}
        ((mM.access (rowR c)).write (Elt F) f w Finset.univ) : sProp 𝕄) = rowP c c g := by
  unfold rowP rowQ
  refine pointsTo_congr fun i hi => ?_
  obtain ⟨y, rfl⟩ := View.exists_emb_of_mem_set _ hi
  refine (View.write_emb_of_mem _ _ (Finset.mem_univ _)).trans ?_
  have e : (rowM c).view.emb y = (ix2 (⟨c.val, c.isLt⟩ : Fin 16) (y 1 : Fin 128) : S16x128.Idx) := by
    funext d
    match d with
    | ⟨0, _⟩ => exact Fin.ext (show c.val + 1 * (y 0).val = c.val by have : (y 0).val < 1 := (y 0).isLt; omega)
    | ⟨1, _⟩ => exact Fin.ext (show 0 + 1 * (y 1).val = (y 1).val by omega)
  have ey : y = ix2 (0 : Fin 1) (y 1 : Fin 128) := by
    funext d
    match d with
    | ⟨0, _⟩ => exact Fin.ext (show (y 0).val = 0 by have : (y 0).val < 1 := (y 0).isLt; omega)
    | ⟨1, _⟩ => rfl
  refine Eq.trans ?_ (congrArg g e).symm
  exact (congrArg w ey).trans (hg (y 1)).symm
/-- The device's own row of maxima, stored. -/
theorem store_row (c : Dev nD) (f : Vec F S16x128 .f32) :
    ((rowM c).view.loc (c : Thread nD τ) ↦[(rowM c).view.set]{fullShare}
        ((mM.access (rowR c)).write (Elt F) f (k0_pay6 (yV X Wt c)) Finset.univ) : sProp 𝕄) = rowP c c (amaxAll X Wt) :=
  store_row_of c f _ _ (amaxAll_ix2 X Wt c)

end Cert.KernelIdeal.Net

end
-- ==== Proof.Ops.lean ====
/-
One rule per operation of the body, over the protocol's schedule: the barrier signal and wait, the two remote copies, the
waits for a DMA cell (which close the cell), and the loads and stores of one piece. Views are given by an equation, so
that a rule applies whatever way the program computes the offset.
-/
module

public import proofs.«01_k».proof.Proof.Slots

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-! ## Views and semaphores at a computed offset -/

theorem slab_of (p : Dev nD) {o : Fin 2 → ℕ} (h : ∀ a, o a + S256x256.size a ≤ S4096x256.size a) (ho : o = ![256 * p.val, 0]) :
    xM.slice (Rect.unit (s := S4096x256) o S256x256.size h) (fun _ => rfl) = slabM p := by subst ho; rfl
theorem slot_of (j : Dev nD) {o : Fin 3 → ℕ} (h : ∀ a, o a + S1x256x256.size a ≤ S16x256x256.size a) (ho : o = ![j.val, 0, 0]) :
    (cM.slice (Rect.unit (s := S16x256x256) o S1x256x256.size h) (fun _ => rfl)).squeeze S256x256 squeezes_S1x256x256_S256x256 = slotM j := by subst ho; rfl
theorem row_of (j : Dev nD) {o : Fin 2 → ℕ} (h : ∀ a, o a + S1x128.size a ≤ S16x128.size a) (ho : o = ![j.val, 0]) :
    mM.slice (Rect.unit (s := S16x128) o S1x128.size h) (fun _ => rfl) = rowM j := by subst ho; rfl

theorem sem_of0 : ∀ (j : Dev nD) {o : Fin 1 → ℕ} (h : ∀ a, o a + S1.size a ≤ S16.size a) (_ : o = ![j.val]),
    ((cc0_scratch3.slice (Rect.unit (s := S16) o S1.size h)).squeeze S_ squeezes_S1_S_).sem = dq 0 j := by
  intro j o h ho; subst ho; revert j; decide +kernel
theorem sem_of1 : ∀ (j : Dev nD) {o : Fin 1 → ℕ} (h : ∀ a, o a + S1.size a ≤ S16.size a) (_ : o = ![j.val]),
    ((cc0_scratch4.slice (Rect.unit (s := S16) o S1.size h)).squeeze S_ squeezes_S1_S_).sem = dq 1 j := by
  intro j o h ho; subst ho; revert j; decide +kernel
theorem sem_of2 : ∀ (j : Dev nD) {o : Fin 1 → ℕ} (h : ∀ a, o a + S1.size a ≤ S16.size a) (_ : o = ![j.val]),
    ((cc0_scratch5.slice (Rect.unit (s := S16) o S1.size h)).squeeze S_ squeezes_S1_S_).sem = dq 2 j := by
  intro j o h ho; subst ho; revert j; decide +kernel
theorem sem_of3 : ∀ (j : Dev nD) {o : Fin 1 → ℕ} (h : ∀ a, o a + S1.size a ≤ S16.size a) (_ : o = ![j.val]),
    ((cc0_scratch6.slice (Rect.unit (s := S16) o S1.size h)).squeeze S_ squeezes_S1_S_).sem = dq 3 j := by
  intro j o h ho; subst ho; revert j; decide +kernel

variable (X : Dev nD → Vec F S4096x256 .f32) (Wt : Dev nD → Vec F S4096x2048 .f32)
variable (K : Dev nD × Option (Fin 4 × Dev nD) → ℕ)

/-! ## What every device may use as often as it likes -/

/-- The cells' invariants, and that each cell's first round is reached. -/
def recs : sProp 𝕄 :=
  iprop((bigSep Finset.univ fun ck => cellInv ER (netRd (F := F) X Wt) (K ck) (kcell ck)) ∗ bigSep Finset.univ fun ck => reached ER (kcell ck) 0)
instance recs_persistent : BI.Persistent (recs (F := F) X Wt K) := by unfold recs; infer_instance

theorem recs_inv (ck : Dev nD × Option (Fin 4 × Dev nD)) : recs (F := F) X Wt K ⊢ cellInv ER (netRd X Wt) (K ck) (kcell ck) := by
  unfold recs
  exact sep_elim_left.trans (bigSep_elim (Finset.mem_univ ck))
theorem recs_reached (ck : Dev nD × Option (Fin 4 × Dev nD)) : recs (F := F) X Wt K ⊢ reached ER (kcell ck) 0 := by
  unfold recs
  exact sep_elim_right.trans (bigSep_elim (Finset.mem_univ ck))

omit [FloatOps F] [Named F] in
/-- What a device owes, with whatever waits it has made. -/
def owesE (c : Dev nD) (O : CellTallies nD τ sig Unit) : sProp 𝕄 := iprop(∃ W, owes (c : Thread nD τ) O W)

/-! ## The barrier -/

theorem wp_sig (c : Dev nD) {p n : Dev nD} (hn : n = p) (hp : p ≠ c) (O : CellTallies nD τ sig Unit) {O' : CellTallies nD τ sig Unit}
    (hO : O' = O + oBar p) {α : Type} {Q : α → sProp 𝕄} {k : PUnit → Prog (TpuEff nD τ sig (Elt F) Λ₀ .tc) α} :
    iprop(recs X Wt K ∗ owesE c O' ∗ dutyTok ER (barCell p) 0 c ∗ barPay p c)
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32 : BitVec 32).toNat) k) Q) := by
  subst hn hO
  unfold owesE
  iintro ⟨#HR, ⟨%W, HO⟩, Ht, Hp⟩ Hk
  iapply (Rounds.wp_signal 𝒱₀ ER (netRd X Wt) (c : Thread nD τ) none (dst := (n : Thread nD τ)) (κ := K (n, none)) (d := c)
      (by rw [duties_bar]; exact Finset.mem_erase.mpr ⟨hp.symm, Finset.mem_univ _⟩) ((amount_bar X Wt n c).trans (by decide)) () O rfl) $$ [HO Ht Hp]
  · isplitr; · iapply (recs_inv X Wt K (n, none)); iexact HR
    isplitl [HO]; · iexact HO
    isplitl [Ht]; · iexact Ht
    isplitl [Hp]; · rw [payload_bar]; iexact Hp
    iapply (recs_reached X Wt K (n, none)); iexact HR
  iintro HO
  iapply Hk
  iexists W; iexact HO

theorem wp_waitbar (c : Dev nD) {O : CellTallies nD τ sig Unit} (hb : ∀ g u, 0 < O g u → g.1.2 = .tc ∧ lvS (.reg barS) < lvS g.2)
    {α : Type} {Q : α → sProp 𝕄} {k : PUnit → Prog (TpuEff nD τ sig (Elt F) Λ₀ .tc) α} :
    iprop(recs X Wt K ∗ levAts L lv ∗ cred (tallyAt (barCell c) () 15) ∗ owesE c O ∗ atPos ER (barCell c) 0 ∅ 0)
      ⊢ iprop(((owesE c O ∗ semVal (barCell c) 0 ∗ bigSep (Finset.range 15) fun t => barPay c (nbr c t))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32 : BitVec 32).toNat) k) Q) := by
  unfold owesE
  iintro ⟨#HR, #Hlev, Hc, ⟨%W, HO⟩, Hat⟩ Hk
  ihave #HI := (recs_inv X Wt K (c, none)) $$ HR
  iapply (Rounds.wp_wait_rest_token 𝒱₀ ER (netRd X Wt) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply (mayWait_below c (.reg barS) O hb); iexact Hlev
    iexact Hat
  iintro ⟨HO, Hat, -, Hpay⟩
  ihave Hpay := (Entails.of_eq (rest_bar X Wt c)) $$ Hpay
  imod (Rounds.cell_close ER (netRd X Wt) (Set.mem_univ (K (c, none))) (fun h => h) (R := 0 + 1) (duties_later X Wt (barCell c))) $$ [Hat] with Hz
  · isplitr; · iexact HI
    iexact Hat
  iapply Hk
  isplitl [HO]; · iexists _; iexact HO
  isplitl [Hz]; · iexact Hz
  iexact Hpay

/-! ## The copies -/

theorem mem_dma (c : Dev nD) (k : Fin 4) {j : Dev nD} (h : j ≠ c) : j ∈ (netRd (F := F) X Wt).duties (dcell k j c) 0 := by
  rw [duties_dma X Wt c k h]; exact Finset.mem_singleton_self _

theorem credOf_x : ∀ k : Fin 4, k.val < 2 → credOf k.val = Nx := fun k h => if_pos h
theorem credOf_a : ∀ k : Fin 4, ¬ k.val < 2 → credOf k.val = Na := fun k h => if_neg h
theorem slot_credit (c : Dev nD) : (slotM c).view.dmaCredit = Nx := rfl
theorem slab_credit (c : Dev nD) : (slabM c).view.dmaCredit = Nx := rfl
theorem row_credit (c : Dev nD) : (rowM c).view.dmaCredit = Na := rfl

theorem pay_0 (j c d : Dev nD) : (netRd (F := F) X Wt).payload (dcell 0 j c) 0 d = slabP c j (xbf X c) := (payload_dma X Wt c 0 j d).trans (if_pos rfl)
theorem pay_1 (j c d : Dev nD) : (netRd (F := F) X Wt).payload (dcell 1 j c) 0 d = slotP c j (commAll X c) :=
  (payload_dma X Wt c 1 j d).trans ((if_neg (by decide)).trans (if_pos rfl))
theorem pay_2 (j c d : Dev nD) : (netRd (F := F) X Wt).payload (dcell 2 j c) 0 d = rowQ (lf j) c c (amaxAll X Wt) :=
  (payload_dma X Wt c 2 j d).trans ((if_neg (by decide)).trans ((if_neg (by decide)).trans (if_pos rfl)))
theorem pay_3 (j c d : Dev nD) : (netRd (F := F) X Wt).payload (dcell 3 j c) 0 d = rowP c j (amaxAll X Wt) :=
  (payload_dma X Wt c 3 j d).trans ((if_neg (by decide)).trans ((if_neg (by decide)).trans (if_neg (by decide))))

/-- A block of activations goes to device `p`. -/
theorem wp_send_x (c : Dev nD) {p n : Dev nD} (hp : p ≠ c) (hn : n = p) {sm dm : Memref sig .tc .vmem S256x256 .bf16} (hsm : sm = slabM p) (hdm : dm = slotM c)
    {qs qd : DmaSem sig} (hqs : qs = dq 0 p) (hqd : qd = dq 1 c) (O : CellTallies nD τ sig Unit) {O' : CellTallies nD τ sig Unit} (hO : O' = O + oRecv c p)
    {hsc : (dm : Memref sig (Dev.tc n : Thread nD τ).2.kind .vmem S256x256 .bf16).view.ref.isScScratch = false}
    {hsrc : sm.view.WordExact} {hdst : dm.view.WordExact}
    {hsem : DmaTarget.Typed .vmem (.dma qd) (.remote (Dev.tc n : Thread nD τ) (dm : Memref sig .tc .vmem S256x256 .bf16) (.dma qs) hsc)}
    {α : Type} {Q : α → sProp 𝕄} {k : PUnit → Prog (TpuEff nD τ sig (Elt F) Λ₀ .tc) α} :
    iprop(recs X Wt K ∗ owesE c O' ∗ slabP c p (xbf X c) ∗ (∃ f, slotP (F := F) p c f) ∗ dutyTok ER (dcell 0 p c) 0 p ∗ dutyTok ER (dcell 1 c p) 0 c)
      ⊢ iprop(((cred (tallyAt (dcell 0 p c) () Nx) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sm (.remote (Dev.tc n : Thread nD τ) dm (.dma qs) hsc) (.dma qd) hsrc hdst hsem) k) Q) := by
  subst hn hsm hdm hqs hqd hO
  unfold owesE
  iintro ⟨#HR, ⟨%W, HO⟩, Hs, ⟨%fd, Hd⟩, Ht0, Ht1⟩ Hk
  iapply (Rounds.wp_send_pointsTo 𝒱₀ ER (netRd X Wt) (c : Thread nD τ) none (κ₁ := K (c, some (0, n))) (κ₂ := K (n, some (1, c)))
    (r₁ := 0) (r₂ := 0) (d₁ := n) (d₂ := c) (fs := xbf X c) (fd := fd) (q := fullShare)
    (mem_dma X Wt c 0 hp) (mem_dma X Wt n 1 hp.symm)
    () () Nx (slot_credit c) ((amount_dma X Wt c 0 n n).trans (credOf_x 0 (by decide))) ((amount_dma X Wt n 1 c c).trans (credOf_x 1 (by decide))) O rfl (W := W)
    (by rw [pay_0]; exact BI.Entails.refl _)
    (by rw [pay_1]; exact Entails.of_eq (land_slot X c n fd))) $$ [HO Hs Hd Ht0 Ht1]
  · isplitr; · iapply (recs_inv X Wt K (c, some (0, n))); iexact HR
    isplitr; · iapply (recs_inv X Wt K (n, some (1, c))); iexact HR
    isplitl [Hs]; · unfold slabP; iexact Hs
    isplitl [Hd]; · unfold slotP; iexact Hd
    isplitl [HO]; · iexact HO
    isplitl [Ht0]; · iexact Ht0
    isplitr; · iapply (recs_reached X Wt K (c, some (0, n))); iexact HR
    isplitl [Ht1]; · iexact Ht1
    iapply (recs_reached X Wt K (n, some (1, c))); iexact HR
  iintro ⟨Hc, HO⟩
  iapply Hk
  isplitl [Hc]; · iexact Hc
  iexists W; iexact HO

/-- The row of maxima goes to device `p`. -/
theorem wp_send_a (c : Dev nD) {p n : Dev nD} (hp : p ≠ c) (hn : n = p) {sm dm : Memref sig .tc .vmem S1x128 .f32} (hsm : sm = rowM c) (hdm : dm = rowM c)
    {qs qd : DmaSem sig} (hqs : qs = dq 2 p) (hqd : qd = dq 3 c) (O : CellTallies nD τ sig Unit) {O' : CellTallies nD τ sig Unit} (hO : O' = O + oArecv c p)
    {hsc : (dm : Memref sig (Dev.tc n : Thread nD τ).2.kind .vmem S1x128 .f32).view.ref.isScScratch = false}
    {hsrc : sm.view.WordExact} {hdst : dm.view.WordExact}
    {hsem : DmaTarget.Typed .vmem (.dma qd) (.remote (Dev.tc n : Thread nD τ) (dm : Memref sig .tc .vmem S1x128 .f32) (.dma qs) hsc)}
    {α : Type} {Q : α → sProp 𝕄} {k : PUnit → Prog (TpuEff nD τ sig (Elt F) Λ₀ .tc) α} :
    iprop(recs X Wt K ∗ owesE c O' ∗ rowQ (lf p) c c (amaxAll X Wt) ∗ (∃ f, rowP (F := F) p c f) ∗ dutyTok ER (dcell 2 p c) 0 p ∗ dutyTok ER (dcell 3 c p) 0 c)
      ⊢ iprop(((cred (tallyAt (dcell 2 p c) () Na) ∗ owesE c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sm (.remote (Dev.tc n : Thread nD τ) dm (.dma qs) hsc) (.dma qd) hsrc hdst hsem) k) Q) := by
  subst hn hsm hdm hqs hqd hO
  unfold owesE
  iintro ⟨#HR, ⟨%W, HO⟩, Hs, ⟨%fd, Hd⟩, Ht0, Ht1⟩ Hk
  iapply (Rounds.wp_send_pointsTo 𝒱₀ ER (netRd X Wt) (c : Thread nD τ) none (κ₁ := K (c, some (2, n))) (κ₂ := K (n, some (3, c)))
    (r₁ := 0) (r₂ := 0) (d₁ := n) (d₂ := c) (fs := amaxAll X Wt) (fd := fd) (q := lf n)
    (mem_dma X Wt c 2 hp) (mem_dma X Wt n 3 hp.symm)
    () () Na (row_credit c) ((amount_dma X Wt c 2 n n).trans (credOf_a 2 (by decide))) ((amount_dma X Wt n 3 c c).trans (credOf_a 3 (by decide))) O rfl (W := W)
    (by rw [pay_2]; exact BI.Entails.refl _)
    (by rw [pay_3]; exact Entails.of_eq (land_row c n fd (amaxAll X Wt)))) $$ [HO Hs Hd Ht0 Ht1]
  · isplitr; · iapply (recs_inv X Wt K (c, some (2, n))); iexact HR
    isplitr; · iapply (recs_inv X Wt K (n, some (3, c))); iexact HR
    isplitl [Hs]; · unfold rowQ; iexact Hs
    isplitl [Hd]; · unfold rowP rowQ; iexact Hd
    isplitl [HO]; · iexact HO
    isplitl [Ht0]; · iexact Ht0
    isplitr; · iapply (recs_reached X Wt K (c, some (2, n))); iexact HR
    isplitl [Ht1]; · iexact Ht1
    iapply (recs_reached X Wt K (n, some (3, c))); iexact HR
  iintro ⟨Hc, HO⟩
  iapply Hk
  isplitl [Hc]; · iexact Hc
  iexists W; iexact HO

/-- A wait for all of a DMA cell's credit: its payload, and the cell back at zero. -/
theorem wp_wait_dma (c : Dev nD) (kk : Fin 4) {j : Dev nD} (hj : j ≠ c) {q : DmaSem sig} (hq : q = dq kk j) {O : CellTallies nD τ sig Unit}
    (hb : ∀ g u, 0 < O g u → g.1.2 = .tc ∧ lvS (.dma (dq kk j)) < lvS g.2)
    {s : Shape} {e : EltTy} {sm dm : Memref sig .tc .vmem s e} (hcr : dm.view.dmaCredit = credOf kk.val)
    {hsrc : sm.view.WordExact} {hdst : dm.view.WordExact}
    {α : Type} {Q : α → sProp 𝕄} {k : PUnit → Prog (TpuEff nD τ sig (Elt F) Λ₀ .tc) α} :
    iprop(recs X Wt K ∗ levAts L lv ∗ cred (tallyAt (dcell kk j c) () (credOf kk.val)) ∗ owesE c O ∗ atPos ER (dcell kk j c) 0 ∅ 0)
      ⊢ iprop(((owesE c O ∗ semVal (dcell kk j c) 0 ∗ dmaPay X Wt kk.val j c)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q sm dm hsrc hdst) k) Q) := by
  subst hq
  rw [← hcr]
  unfold owesE
  iintro ⟨#HR, #Hlev, Hc, ⟨%W, HO⟩, Hat⟩ Hk
  ihave #HI := (recs_inv X Wt K (c, some (kk, j))) $$ HR
  iapply (Rounds.wp_wait_rest_token 𝒱₀ ER (netRd X Wt) (c : Thread nD τ) none (κ := K (c, some (kk, j)))
      (wpE_waitDma2_eq 𝒱₀ (c : Thread nD τ) none Set.univ) (Set.mem_univ _) () (O := O) (W := W) (R := 0) (m := 0) (T := ∅)
      (by rw [Nat.zero_add, expect_dma X Wt c kk hj]; exact hcr)) $$ [Hc HO Hat]
  · isplitr; · iexact HI
    isplitl [Hc]; · iexact Hc
    isplitl [HO]; · iexact HO
    isplitr; · iapply (mayWait_below c (.dma (dq kk j)) O hb); iexact Hlev
    iexact Hat
  iintro ⟨HO, Hat, -, Hpay⟩
  ihave Hpay := (Entails.of_eq (rest_dma X Wt c kk hj)) $$ Hpay
  imod (Rounds.cell_close ER (netRd X Wt) (Set.mem_univ (K (c, some (kk, j)))) (fun h => h) (R := 0 + 1) (duties_later X Wt (dcell kk j c))) $$ [Hat] with Hz
  · isplitr; · iexact HI
    iexact Hat
  iapply Hk
  isplitl [HO]; · iexists _; iexact HO
  isplitl [Hz]; · iexact Hz
  iexact Hpay

/-! ## Loads and stores of one piece -/

theorem wp_load_slot (c j : Dev nD) {o : Fin 3 → ℕ} {h : ∀ a, o a + S1x256x256.size a ≤ S16x256x256.size a} (ho : o = ![j.val, 0, 0])
    {hl} {α : Type} {Q : α → sProp 𝕄} {k : Vec F S1x256x256 .bf16 → Prog (TpuEff nD τ sig (Elt F) Λ₀ .tc) α} :
    slotP c j (commAll X c)
      ⊢ iprop((slotP c j (commAll X c) -∗ wp frame (wpE (defs₀ (F := F)) 𝒱₀ (c : Thread nD τ) none) Set.univ (k (slotV X c j)) Q)
          -∗ wp frame (wpE (defs₀ (F := F)) 𝒱₀ (c : Thread nD τ) none) Set.univ
              (.op (.load cM (Rect.unit (s := S16x256x256) o S1x256x256.size h).toLoadRect hl) k) Q) := by
  subst ho
  unfold slotP
  rw [← read_slot]
  exact wp_load_rect 𝒱₀ (c : Thread nD τ) none Set.univ (m := cM) (r := slotR j) (set_slot j).ge

theorem wp_load_slot_any (c j : Dev nD) (f : Vec F S16x256x256 .bf16) {o : Fin 3 → ℕ} {h : ∀ a, o a + S1x256x256.size a ≤ S16x256x256.size a} (ho : o = ![j.val, 0, 0])
    {hl} {α : Type} {Q : α → sProp 𝕄} {k : Vec F S1x256x256 .bf16 → Prog (TpuEff nD τ sig (Elt F) Λ₀ .tc) α} :
    slotP c j f
      ⊢ iprop((∀ v, slotP c j f -∗ wp frame (wpE (defs₀ (F := F)) 𝒱₀ (c : Thread nD τ) none) Set.univ (k v) Q)
          -∗ wp frame (wpE (defs₀ (F := F)) 𝒱₀ (c : Thread nD τ) none) Set.univ
              (.op (.load cM (Rect.unit (s := S16x256x256) o S1x256x256.size h).toLoadRect hl) k) Q) := by
  subst ho
  unfold slotP
  iintro H Hk
  iapply (wp_load_rect 𝒱₀ (c : Thread nD τ) none Set.univ (m := cM) (r := slotR j) (set_slot j).ge) $$ H
  iapply Hk

theorem wp_load_slab (c j : Dev nD) {o : Fin 2 → ℕ} {h : ∀ a, o a + S256x256.size a ≤ S4096x256.size a} (ho : o = ![256 * j.val, 0])
    {hl} {α : Type} {Q : α → sProp 𝕄} {k : Vec F S256x256 .bf16 → Prog (TpuEff nD τ sig (Elt F) Λ₀ .tc) α} :
    slabP c j (xbf X c)
      ⊢ iprop((slabP c j (xbf X c) -∗ wp frame (wpE (defs₀ (F := F)) 𝒱₀ (c : Thread nD τ) none) Set.univ (k (slabV X c j)) Q)
          -∗ wp frame (wpE (defs₀ (F := F)) 𝒱₀ (c : Thread nD τ) none) Set.univ
              (.op (.load xM (Rect.unit (s := S4096x256) o S256x256.size h).toLoadRect hl) k) Q) := by
  subst ho
  unfold slabP
  rw [← read_slab]
  exact wp_load_rect 𝒱₀ (c : Thread nD τ) none Set.univ (m := xM) (r := slabR j) (le_refl _)

theorem wp_load_w (c j : Dev nD) {o : Fin 2 → ℕ} {h : ∀ a, o a + S256x2048.size a ≤ S4096x2048.size a} (ho : o = ![256 * j.val, 0])
    {hl} {α : Type} {Q : α → sProp 𝕄} {k : Vec F S256x2048 .f32 → Prog (TpuEff nD τ sig (Elt F) Λ₀ .tc) α} :
    ((((c : Thread nD τ).loc cc0_stg1_0) ↦{fullShare} (Wt c)) : sProp 𝕄)
      ⊢ iprop(((((c : Thread nD τ).loc cc0_stg1_0) ↦{fullShare} (Wt c)) -∗ wp frame (wpE (defs₀ (F := F)) 𝒱₀ (c : Thread nD τ) none) Set.univ (k (wV Wt c j)) Q)
          -∗ wp frame (wpE (defs₀ (F := F)) 𝒱₀ (c : Thread nD τ) none) Set.univ
              (.op (.load wM (Rect.unit (s := S4096x2048) o S256x2048.size h).toLoadRect hl) k) Q) := by
  subst ho
  rw [← read_w]
  exact wp_load_rect 𝒱₀ (c : Thread nD τ) none Set.univ (m := wM) (r := Rect.unit (s := S4096x2048) ![256 * j.val, 0] S256x2048.size (wrow_inb j)) (Finset.subset_univ _)

theorem wp_load_row_any (c j : Dev nD) (f : Vec F S16x128 .f32) {o : Fin 2 → ℕ} {h : ∀ a, o a + S1x128.size a ≤ S16x128.size a} (ho : o = ![j.val, 0])
    {hl} {α : Type} {Q : α → sProp 𝕄} {k : Vec F S1x128 .f32 → Prog (TpuEff nD τ sig (Elt F) Λ₀ .tc) α} :
    rowP c j f
      ⊢ iprop((∀ v, rowP c j f -∗ wp frame (wpE (defs₀ (F := F)) 𝒱₀ (c : Thread nD τ) none) Set.univ (k v) Q)
          -∗ wp frame (wpE (defs₀ (F := F)) 𝒱₀ (c : Thread nD τ) none) Set.univ
              (.op (.load mM (Rect.unit (s := S16x128) o S1x128.size h).toLoadRect hl) k) Q) := by
  subst ho
  unfold rowP rowQ
  iintro H Hk
  iapply (wp_load_rect 𝒱₀ (c : Thread nD τ) none Set.univ (m := mM) (r := rowR j) (le_refl _)) $$ H
  iapply Hk

theorem wp_store_slot (c : Dev nD) (f : Vec F S16x256x256 .bf16) {o : Fin 3 → ℕ} {h : ∀ a, o a + S1x256x256.size a ≤ S16x256x256.size a} (ho : o = ![c.val, 0, 0])
    {h1 h2} {α : Type} {Q : α → sProp 𝕄} {k : PUnit → Prog (TpuEff nD τ sig (Elt F) Λ₀ .tc) α} :
    slotP c c f
      ⊢ iprop((slotP c c (commAll X c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store cM (Rect.unit (s := S16x256x256) o S1x256x256.size h) (k0_pay3 (slabV X c c)) Finset.univ h1 h2) k) Q) := by
  subst ho
  rw [← store_slot X c f]
  unfold slotP
  exact wp_store 𝒱₀ (c : Thread nD τ) none Set.univ (m := cM) (r := slotR c) (Mk := Finset.univ) ((View.setOn_univ _).le.trans (set_slot c).ge)

theorem wp_store_row (c : Dev nD) (f : Vec F S16x128 .f32) {o : Fin 2 → ℕ} {h : ∀ a, o a + S1x128.size a ≤ S16x128.size a} (ho : o = ![c.val, 0])
    {h1 h2} {α : Type} {Q : α → sProp 𝕄} {k : PUnit → Prog (TpuEff nD τ sig (Elt F) Λ₀ .tc) α} :
    rowP c c f
      ⊢ iprop((rowP c c (amaxAll X Wt) -∗ wp frame (wpE (defs₀ (F := F)) 𝒱₀ (c : Thread nD τ) none) Set.univ (k ⟨⟩) Q)
          -∗ wp frame (wpE (defs₀ (F := F)) 𝒱₀ (c : Thread nD τ) none) Set.univ
              (.op (.store mM (Rect.unit (s := S16x128) o S1x128.size h) (k0_pay6 (yV X Wt c)) Finset.univ h1 h2) k) Q) := by
  subst ho
  rw [← store_row X Wt c f]
  unfold rowP rowQ
  exact wp_store 𝒱₀ (c : Thread nD τ) none Set.univ (m := mM) (r := rowR c) (Mk := Finset.univ) (View.setOn_univ _).le

end Cert.KernelIdeal.Net

end
-- ==== Proof.Trips.lean ====
/-
The seven loops of the body, each as an invariant kept by one trip. Before trip `k` the trips from `k` on hold what they
will spend, the trips before `k` what they have brought.
-/
module

public import proofs.«01_k».proof.Proof.Ops
public import Idealize.ShloMosaic.Lib.Scf

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem trips1 : k0_t1_loop.trips = 15 := by decide +kernel
theorem trips2 : k0_t2_loop.trips = 15 := by decide +kernel
theorem trips3 : k0_t3_loop.trips = 15 := by decide +kernel
theorem trips4 : k0_t4_loop.trips = 15 := by decide +kernel
theorem trips5 : k0_t5_loop.trips = 15 := by decide +kernel
theorem trips6 : k0_t6_loop.trips = 15 := by decide +kernel
theorem trips7 : k0_t7_loop.trips = 15 := by decide +kernel

theorem nbr_ne' (c : Dev nD) {k : ℕ} (hk : k < 15) : nbr c k ≠ c := nbr_ne c ⟨k, hk⟩
theorem src_ne' (c : Dev nD) {k : ℕ} (hk : k < 15) : src c k ≠ c := src_ne c ⟨k, hk⟩

variable (X : Dev nD → Vec F S4096x256 .f32) (Wt : Dev nD → Vec F S4096x2048 .f32)
variable (K : Dev nD × Option (Fin 4 × Dev nD) → ℕ)

/-- What stays in hand throughout: the invariants and the levels. -/
def env : sProp 𝕄 := iprop(recs (F := F) X Wt K ∗ levAts L lv)
instance env_persistent : BI.Persistent (env (F := F) X Wt K) := by unfold env; infer_instance

variable (c : Dev nD)

/-! ### The signals -/

def todo1 (t : ℕ) : sProp 𝕄 := iprop(dutyTok ER (barCell (nbr c t)) 0 c ∗ barPay (F := F) (nbr c t) c)
def inv1 (k : ℕ) (_ : Unit) : sProp 𝕄 :=
  iprop(env (F := F) X Wt K ∗ owesE c (pend oBar c k + O₁ c) ∗ bigSep (Finset.Ico k 15) (todo1 (F := F) c))

theorem trip1 (k : Fin k0_t1_loop.trips) (acc : Unit) :
    inv1 (F := F) X Wt K c k.val acc ⊢ wp frame (wpE (defs₀ (F := F)) 𝒱₀ (c : Thread nD τ) none) Set.univ
      (k0_t1_body aM (Memref.isWhole_whole _) wM (Memref.isWhole_whole _) oM (Memref.isWhole_whole _) xM (Memref.isWhole_whole _) cM (Memref.isWhole_whole _)
        mM (Memref.isWhole_whole _) cc0_scratch3 cc0_scratch4 cc0_scratch5 cc0_scratch6 c (SemArray.scalar (sig.barrier 0 rfl)) k acc)
      (inv1 (F := F) X Wt K c (k.val + 1)) := by
  have hk : k.val < 15 := trips1 ▸ k.isLt
  unfold k0_t1_body
  simp only [semSignalWord, Prog.lift, Prog.bind_op, Prog.bind_ret, Prog.pure_eq_ret]
  unfold inv1 env
  rw [bigSep_todo hk]
  iintro ⟨⟨#HR, #Hlev⟩, HO, Hd, Hrest⟩
  unfold todo1
  icases Hd with ⟨Ht, Hp⟩
  iapply (wp_sig X Wt K c (p := nbr c k.val) (Fin.ext (k0_dev1_eq c k)) (nbr_ne' c hk) (pend oBar c (k.val + 1) + O₁ c)
    (show pend oBar c k.val + O₁ c = _ by rw [pend_step _ _ hk, add_right_comm])) $$ [HO Ht Hp]
  · isplitr; · iexact HR
    isplitl [HO]; · iexact HO
    isplitl [Ht] <;> iassumption
  iintro HO
  rw [wp_ret]; imodintro
  isplitr
  · isplitr; · iexact HR
    iexact Hlev
  isplitl [HO] <;> iassumption

/-! ### The copies of activations -/

def todo2 (t : ℕ) : sProp 𝕄 :=
  iprop(slabP c (nbr c t) (xbf X c) ∗ (∃ f, slotP (F := F) (nbr c t) c f) ∗ dutyTok ER (dcell 0 (nbr c t) c) 0 (nbr c t) ∗ dutyTok ER (dcell 1 c (nbr c t)) 0 c)
def done2 (t : ℕ) : sProp 𝕄 := cred (tallyAt (dcell 0 (nbr c t) c) () Nx)
def inv2 (k : ℕ) (_ : Unit) : sProp 𝕄 :=
  iprop(env (F := F) X Wt K ∗ owesE c (pend (oRecv c) c k + O₂ c) ∗ bigSep (Finset.Ico k 15) (todo2 (F := F) X c) ∗ bigSep (Finset.range k) (done2 (F := F) c))

theorem trip2 (k : Fin k0_t2_loop.trips) (acc : Unit) :
    inv2 (F := F) X Wt K c k.val acc ⊢ wp frame (wpE (defs₀ (F := F)) 𝒱₀ (c : Thread nD τ) none) Set.univ
      (k0_t2_body aM (Memref.isWhole_whole _) wM (Memref.isWhole_whole _) oM (Memref.isWhole_whole _) xM (Memref.isWhole_whole _) cM (Memref.isWhole_whole _)
        mM (Memref.isWhole_whole _) cc0_scratch3 cc0_scratch4 cc0_scratch5 cc0_scratch6 c k acc)
      (inv2 (F := F) X Wt K c (k.val + 1)) := by
  have hk : k.val < 15 := trips2 ▸ k.isLt
  unfold k0_t2_body
  simp only [Prog.lift, Prog.bind_op, Prog.bind_ret, Prog.pure_eq_ret]
  unfold inv2 env
  rw [bigSep_todo hk, bigSep_done]
  iintro ⟨⟨#HR, #Hlev⟩, HO, ⟨Hd, Hrest⟩, Hdone⟩
  unfold todo2
  icases Hd with ⟨Hs, Hl, Ht0, Ht1⟩
  iapply (wp_send_x X Wt K c (p := nbr c k.val) (nbr_ne' c hk) (Fin.ext (k0_dev2_eq c k))
    (slab_of (nbr c k.val) _ (k0_off4_eq c k)) (slot_of c _ (k0_off3_eq c)) (sem_of0 (nbr c k.val) _ (k0_off1_eq c k)) (sem_of1 c _ (k0_off2_eq c))
    (pend (oRecv c) c (k.val + 1) + O₂ c) (show pend (oRecv c) c k.val + O₂ c = _ by rw [pend_step _ _ hk, add_right_comm])) $$ [HO Hs Hl Ht0 Ht1]
  · isplitr; · iexact HR
    isplitl [HO]; · iexact HO
    isplitl [Hs]; · iexact Hs
    isplitl [Hl]; · iexact Hl
    isplitl [Ht0] <;> iassumption
  iintro ⟨Hc, HO⟩
  rw [wp_ret]; imodintro
  isplitr
  · isplitr; · iexact HR
    iexact Hlev
  isplitl [HO]; · iexact HO
  isplitl [Hrest]; · iexact Hrest
  isplitl [Hc]; · unfold done2; iexact Hc
  iexact Hdone

/-! ### The landings of activations, and the product -/

def todo3 (t : ℕ) : sProp 𝕄 := iprop(atPos ER (dcell 1 (src c t) c) 0 ∅ 0 ∗ cred (tallyAt (dcell 1 (src c t) c) () Nx))
def done3 (t : ℕ) : sProp 𝕄 := iprop(slotP c (src c t) (commAll X c) ∗ semVal (dcell 1 (src c t) c) 0)
def inv3 (k : ℕ) (acc : FVec F S256x2048 .f32) : sProp 𝕄 :=
  iprop(⌜acc = yAcc X Wt c k⌝ ∗ env (F := F) X Wt K ∗ owesE c (O₂ c) ∗ (((c : Thread nD τ).loc cc0_stg1_0) ↦{fullShare} (Wt c))
    ∗ bigSep (Finset.Ico k 15) (todo3 (F := F) c) ∗ bigSep (Finset.range k) (done3 (F := F) X c))

theorem dmaPay_0 (j : Dev nD) : dmaPay (F := F) X Wt (0 : Fin 4).val j c = slabP c j (xbf X c) := if_pos rfl
theorem dmaPay_1 (j : Dev nD) : dmaPay (F := F) X Wt (1 : Fin 4).val j c = slotP c j (commAll X c) := (if_neg (by decide)).trans (if_pos rfl)
theorem dmaPay_2 (j : Dev nD) : dmaPay (F := F) X Wt (2 : Fin 4).val j c = rowQ (lf j) c c (amaxAll X Wt) :=
  (if_neg (by decide)).trans ((if_neg (by decide)).trans (if_pos rfl))
theorem dmaPay_3 (j : Dev nD) : dmaPay (F := F) X Wt (3 : Fin 4).val j c = rowP c j (amaxAll X Wt) :=
  (if_neg (by decide)).trans ((if_neg (by decide)).trans (if_neg (by decide)))

theorem below_2 (k : Fin 4) (hk : k.val ≠ 3) (j : Dev nD) : ∀ g u, 0 < O₂ c g u → g.1.2 = .tc ∧ lvS (.dma (dq k j)) < lvS g.2 :=
  below₂ c _ (by rw [lvS_dq, if_neg hk]; split <;> decide)
theorem below_0 (s : SemLoc sig) : ∀ (g : GSem nD τ sig) (u : Unit), 0 < (0 : CellTallies nD τ sig Unit) g u → g.1.2 = .tc ∧ lvS s < lvS g.2 :=
  fun g u h => absurd h (Nat.lt_irrefl 0)

theorem slot_credit' (j : Dev nD) {o : Fin 3 → ℕ} (h : ∀ a, o a + S1x256x256.size a ≤ S16x256x256.size a) (k : Fin 4) (hk : k.val < 2) :
    ((cM.slice (Rect.unit (s := S16x256x256) o S1x256x256.size h) (fun _ => rfl)).squeeze S256x256 squeezes_S1x256x256_S256x256).view.dmaCredit = credOf k.val :=
  (credOf_x k hk).symm ▸ rfl
theorem slab_credit' {o : Fin 2 → ℕ} (h : ∀ a, o a + S256x256.size a ≤ S4096x256.size a) (k : Fin 4) (hk : k.val < 2) :
    (xM.slice (Rect.unit (s := S4096x256) o S256x256.size h) (fun _ => rfl)).view.dmaCredit = credOf k.val := (credOf_x k hk).symm ▸ rfl
theorem row_credit' {o : Fin 2 → ℕ} (h : ∀ a, o a + S1x128.size a ≤ S16x128.size a) (k : Fin 4) (hk : ¬ k.val < 2) :
    (mM.slice (Rect.unit (s := S16x128) o S1x128.size h) (fun _ => rfl)).view.dmaCredit = credOf k.val := (credOf_a k hk).symm ▸ rfl

theorem trip3 (v2 : BitVec 32) (v27 : FVec F S256x2048 .f32) (c1 : BitVec 32) (k : Fin k0_t3_loop.trips) (acc : FVec F S256x2048 .f32) :
    inv3 (F := F) X Wt K c k.val acc ⊢ wp frame (wpE (defs₀ (F := F)) 𝒱₀ (c : Thread nD τ) none) Set.univ
      (k0_t3_body aM (Memref.isWhole_whole _) wM (Memref.isWhole_whole _) oM (Memref.isWhole_whole _) xM (Memref.isWhole_whole _) cM (Memref.isWhole_whole _)
        mM (Memref.isWhole_whole _) cc0_scratch3 cc0_scratch4 cc0_scratch5 cc0_scratch6 c v2 v27 c1 k acc)
      (inv3 (F := F) X Wt K c (k.val + 1)) := by
  have hk : k.val < 15 := trips3 ▸ k.isLt
  unfold k0_t3_body
  simp only [Prog.lift, Prog.bind_op, Prog.bind_ret, Prog.pure_eq_ret]
  unfold inv3 env
  rw [bigSep_todo hk, bigSep_done]
  iintro ⟨%hacc, ⟨#HR, #Hlev⟩, HO, Hw, ⟨Hd, Hrest⟩, Hdone⟩
  unfold todo3
  icases Hd with ⟨Hat, Hc⟩
  iapply (wp_wait_dma X Wt K c 1 (j := src c k.val) (src_ne' c hk) (sem_of1 (src c k.val) _ (k0_off8_eq c k)) (below_2 c 1 (by decide) (src c k.val))
    (slot_credit' (src c k.val) _ 1 (by decide))) $$ [HO Hat Hc]
  · isplitr; · iexact HR
    isplitr; · iexact Hlev
    isplitl [Hc]; · rw [credOf_x 1 (by decide)]; iexact Hc
    isplitl [HO] <;> iassumption
  rw [dmaPay_1]
  iintro ⟨HO, Hz, Hs⟩
  iapply (wp_load_slot X c (src c k.val) (k0_off10_eq c k)) $$ Hs; iintro Hs
  iapply (wp_load_w Wt c (src c k.val) (k0_off11_eq c k)) $$ Hw; iintro Hw
  rw [wp_ret]; imodintro
  isplitr; · ipureintro; subst hacc; rfl
  isplitr
  · isplitr; · iexact HR
    iexact Hlev
  isplitl [HO]; · iexact HO
  isplitl [Hw]; · iexact Hw
  isplitl [Hrest]; · iexact Hrest
  isplitl [Hs Hz]
  · unfold done3; isplitl [Hs] <;> iassumption
  iexact Hdone

/-! ### The sources of the activation copies come back -/

def todo4 (t : ℕ) : sProp 𝕄 := iprop(atPos ER (dcell 0 (nbr c t) c) 0 ∅ 0 ∗ cred (tallyAt (dcell 0 (nbr c t) c) () Nx))
def done4 (t : ℕ) : sProp 𝕄 := iprop(slabP c (nbr c t) (xbf X c) ∗ semVal (dcell 0 (nbr c t) c) 0)
def inv4 (k : ℕ) (_ : Unit) : sProp 𝕄 :=
  iprop(env (F := F) X Wt K ∗ owesE c (O₂ c) ∗ bigSep (Finset.Ico k 15) (todo4 (F := F) c) ∗ bigSep (Finset.range k) (done4 (F := F) X c))

theorem trip4 (v2 : BitVec 32) (v27 : FVec F S256x2048 .f32) (c1 : BitVec 32) (k : Fin k0_t4_loop.trips) (acc : Unit) :
    inv4 (F := F) X Wt K c k.val acc ⊢ wp frame (wpE (defs₀ (F := F)) 𝒱₀ (c : Thread nD τ) none) Set.univ
      (k0_t4_body aM (Memref.isWhole_whole _) wM (Memref.isWhole_whole _) oM (Memref.isWhole_whole _) xM (Memref.isWhole_whole _) cM (Memref.isWhole_whole _)
        mM (Memref.isWhole_whole _) cc0_scratch3 cc0_scratch4 cc0_scratch5 cc0_scratch6 c v2 v27 c1 k acc)
      (inv4 (F := F) X Wt K c (k.val + 1)) := by
  have hk : k.val < 15 := trips4 ▸ k.isLt
  unfold k0_t4_body
  simp only [Prog.lift, Prog.bind_op, Prog.bind_ret, Prog.pure_eq_ret]
  unfold inv4 env
  rw [bigSep_todo hk, bigSep_done]
  iintro ⟨⟨#HR, #Hlev⟩, HO, ⟨Hd, Hrest⟩, Hdone⟩
  unfold todo4
  icases Hd with ⟨Hat, Hc⟩
  iapply (wp_wait_dma X Wt K c 0 (j := nbr c k.val) (nbr_ne' c hk) (sem_of0 (nbr c k.val) _ (k0_off12_eq c k)) (below_2 c 0 (by decide) (nbr c k.val))
    (slab_credit' _ 0 (by decide))) $$ [HO Hat Hc]
  · isplitr; · iexact HR
    isplitr; · iexact Hlev
    isplitl [Hc]; · rw [credOf_x 0 (by decide)]; iexact Hc
    isplitl [HO] <;> iassumption
  rw [dmaPay_0]
  iintro ⟨HO, Hz, Hs⟩
  rw [wp_ret]; imodintro
  isplitr
  · isplitr; · iexact HR
    iexact Hlev
  isplitl [HO]; · iexact HO
  isplitl [Hrest]; · iexact Hrest
  isplitl [Hs Hz]
  · unfold done4; isplitl [Hs] <;> iassumption
  iexact Hdone

/-! ### The copies of the row of maxima -/

def todo5 (t : ℕ) : sProp 𝕄 :=
  iprop(rowQ (lf (nbr c t)) c c (amaxAll X Wt) ∗ (∃ f, rowP (F := F) (nbr c t) c f) ∗ dutyTok ER (dcell 2 (nbr c t) c) 0 (nbr c t) ∗ dutyTok ER (dcell 3 c (nbr c t)) 0 c)
def done5 (t : ℕ) : sProp 𝕄 := cred (tallyAt (dcell 2 (nbr c t) c) () Na)
def inv5 (k : ℕ) (_ : Unit) : sProp 𝕄 :=
  iprop(env (F := F) X Wt K ∗ owesE c (pend (oArecv c) c k) ∗ bigSep (Finset.Ico k 15) (todo5 (F := F) X Wt c) ∗ bigSep (Finset.range k) (done5 (F := F) c))

theorem trip5 (v2 : BitVec 32) (v27 : FVec F S256x2048 .f32) (c1 : BitVec 32) (k : Fin k0_t5_loop.trips) (acc : Unit) :
    inv5 (F := F) X Wt K c k.val acc ⊢ wp frame (wpE (defs₀ (F := F)) 𝒱₀ (c : Thread nD τ) none) Set.univ
      (k0_t5_body aM (Memref.isWhole_whole _) wM (Memref.isWhole_whole _) oM (Memref.isWhole_whole _) xM (Memref.isWhole_whole _) cM (Memref.isWhole_whole _)
        mM (Memref.isWhole_whole _) cc0_scratch3 cc0_scratch4 cc0_scratch5 cc0_scratch6 c v2 v27 c1 k acc)
      (inv5 (F := F) X Wt K c (k.val + 1)) := by
  have hk : k.val < 15 := trips5 ▸ k.isLt
  unfold k0_t5_body
  simp only [Prog.lift, Prog.bind_op, Prog.bind_ret, Prog.pure_eq_ret]
  unfold inv5 env
  rw [bigSep_todo hk, bigSep_done]
  iintro ⟨⟨#HR, #Hlev⟩, HO, ⟨Hd, Hrest⟩, Hdone⟩
  unfold todo5
  icases Hd with ⟨Hs, Hl, Ht0, Ht1⟩
  iapply (wp_send_a X Wt K c (p := nbr c k.val) (nbr_ne' c hk) (Fin.ext (k0_dev3_eq c k))
    (row_of c _ (k0_off18_eq c)) (row_of c _ (k0_off18_eq c)) (sem_of2 (nbr c k.val) _ (k0_off16_eq c k)) (sem_of3 c _ (k0_off17_eq c))
    (pend (oArecv c) c (k.val + 1)) (pend_step _ _ hk)) $$ [HO Hs Hl Ht0 Ht1]
  · isplitr; · iexact HR
    isplitl [HO]; · iexact HO
    isplitl [Hs]; · iexact Hs
    isplitl [Hl]; · iexact Hl
    isplitl [Ht0] <;> iassumption
  iintro ⟨Hc, HO⟩
  rw [wp_ret]; imodintro
  isplitr
  · isplitr; · iexact HR
    iexact Hlev
  isplitl [HO]; · iexact HO
  isplitl [Hrest]; · iexact Hrest
  isplitl [Hc]; · unfold done5; iexact Hc
  iexact Hdone

/-! ### The landings of the other rows -/

def todo6 (t : ℕ) : sProp 𝕄 := iprop(atPos ER (dcell 3 (nbr c t) c) 0 ∅ 0 ∗ cred (tallyAt (dcell 3 (nbr c t) c) () Na))
def done6 (t : ℕ) : sProp 𝕄 := iprop(rowP c (nbr c t) (amaxAll X Wt) ∗ semVal (dcell 3 (nbr c t) c) 0)
def inv6 (k : ℕ) (_ : Unit) : sProp 𝕄 :=
  iprop(env (F := F) X Wt K ∗ owesE c 0 ∗ bigSep (Finset.Ico k 15) (todo6 (F := F) c) ∗ bigSep (Finset.range k) (done6 (F := F) X Wt c))

theorem trip6 (v2 : BitVec 32) (v27 : FVec F S256x2048 .f32) (c1 : BitVec 32) (k : Fin k0_t6_loop.trips) (acc : Unit) :
    inv6 (F := F) X Wt K c k.val acc ⊢ wp frame (wpE (defs₀ (F := F)) 𝒱₀ (c : Thread nD τ) none) Set.univ
      (k0_t6_body aM (Memref.isWhole_whole _) wM (Memref.isWhole_whole _) oM (Memref.isWhole_whole _) xM (Memref.isWhole_whole _) cM (Memref.isWhole_whole _)
        mM (Memref.isWhole_whole _) cc0_scratch3 cc0_scratch4 cc0_scratch5 cc0_scratch6 c v2 v27 c1 k acc)
      (inv6 (F := F) X Wt K c (k.val + 1)) := by
  have hk : k.val < 15 := trips6 ▸ k.isLt
  unfold k0_t6_body
  simp only [Prog.lift, Prog.bind_op, Prog.bind_ret, Prog.pure_eq_ret]
  unfold inv6 env
  rw [bigSep_todo hk, bigSep_done]
  iintro ⟨⟨#HR, #Hlev⟩, HO, ⟨Hd, Hrest⟩, Hdone⟩
  unfold todo6
  icases Hd with ⟨Hat, Hc⟩
  iapply (wp_wait_dma X Wt K c 3 (j := nbr c k.val) (nbr_ne' c hk) (sem_of3 (nbr c k.val) _ (k0_off19_eq c k)) (below_0 _)
    (sm := mM.slice (Rect.unit (s := S16x128) ![0, 0] S1x128.size inb_S16x128_S1x128_0_0) (fun _ => rfl)) (hsrc := View.wordExact_bits rfl) (hdst := View.wordExact_bits rfl)
    (row_credit' _ 3 (by decide))) $$ [HO Hat Hc]
  · isplitr; · iexact HR
    isplitr; · iexact Hlev
    isplitl [Hc]; · rw [credOf_a 3 (by decide)]; iexact Hc
    isplitl [HO] <;> iassumption
  rw [dmaPay_3]
  iintro ⟨HO, Hz, Hs⟩
  rw [wp_ret]; imodintro
  isplitr
  · isplitr; · iexact HR
    iexact Hlev
  isplitl [HO]; · iexact HO
  isplitl [Hrest]; · iexact Hrest
  isplitl [Hs Hz]
  · unfold done6; isplitl [Hs] <;> iassumption
  iexact Hdone

/-! ### The shares of the own row come back -/

def todo7 (t : ℕ) : sProp 𝕄 := iprop(atPos ER (dcell 2 (nbr c t) c) 0 ∅ 0 ∗ cred (tallyAt (dcell 2 (nbr c t) c) () Na))
def done7 (t : ℕ) : sProp 𝕄 := iprop(rowQ (lf (nbr c t)) c c (amaxAll X Wt) ∗ semVal (dcell 2 (nbr c t) c) 0)
def inv7 (k : ℕ) (_ : Unit) : sProp 𝕄 :=
  iprop(env (F := F) X Wt K ∗ owesE c 0 ∗ bigSep (Finset.Ico k 15) (todo7 (F := F) c) ∗ bigSep (Finset.range k) (done7 (F := F) X Wt c))

theorem trip7 (v2 : BitVec 32) (v27 : FVec F S256x2048 .f32) (c1 : BitVec 32) (k : Fin k0_t7_loop.trips) (acc : Unit) :
    inv7 (F := F) X Wt K c k.val acc ⊢ wp frame (wpE (defs₀ (F := F)) 𝒱₀ (c : Thread nD τ) none) Set.univ
      (k0_t7_body aM (Memref.isWhole_whole _) wM (Memref.isWhole_whole _) oM (Memref.isWhole_whole _) xM (Memref.isWhole_whole _) cM (Memref.isWhole_whole _)
        mM (Memref.isWhole_whole _) cc0_scratch3 cc0_scratch4 cc0_scratch5 cc0_scratch6 c v2 v27 c1 k acc)
      (inv7 (F := F) X Wt K c (k.val + 1)) := by
  have hk : k.val < 15 := trips7 ▸ k.isLt
  unfold k0_t7_body
  simp only [Prog.lift, Prog.bind_op, Prog.bind_ret, Prog.pure_eq_ret]
  unfold inv7 env
  rw [bigSep_todo hk, bigSep_done]
  iintro ⟨⟨#HR, #Hlev⟩, HO, ⟨Hd, Hrest⟩, Hdone⟩
  unfold todo7
  icases Hd with ⟨Hat, Hc⟩
  iapply (wp_wait_dma X Wt K c 2 (j := nbr c k.val) (nbr_ne' c hk) (sem_of2 (nbr c k.val) _ (k0_off21_eq c k)) (below_0 _)
    (row_credit' _ 2 (by decide))) $$ [HO Hat Hc]
  · isplitr; · iexact HR
    isplitr; · iexact Hlev
    isplitl [Hc]; · rw [credOf_a 2 (by decide)]; iexact Hc
    isplitl [HO] <;> iassumption
  rw [dmaPay_2]
  iintro ⟨HO, Hz, Hs⟩
  rw [wp_ret]; imodintro
  isplitr
  · isplitr; · iexact HR
    iexact Hlev
  isplitl [HO]; · iexact HO
  isplitl [Hrest]; · iexact Hrest
  isplitl [Hs Hz]
  · unfold done7; isplitl [Hs] <;> iassumption
  iexact Hdone

end Cert.KernelIdeal.Net

end
-- ==== Proof.Body.lean ====
/-
The body of one device, run from what the launch deals it to its result block: the two halves the program is printed in,
each a sequence of the rules of `Ops` and the loops of `Trips`.
-/
module

public import proofs.«01_k».proof.Proof.Trips

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (X : Dev nD → Vec F S4096x256 .f32) (Wt : Dev nD → Vec F S4096x2048 .f32)
variable (K : Dev nD × Option (Fin 4 × Dev nD) → ℕ) (c : Dev nD)

/-- One fact per trip. -/
abbrev each (Φ : ℕ → sProp 𝕄) : sProp 𝕄 := bigSep (Finset.range 15) Φ

theorem hz2 : (![0, 0] : Fin 2 → Nat) = fun _ => 0 := funext fun a => by fin_cases a <;> rfl

theorem env_split : env (F := F) X Wt K ⊢ iprop(recs X Wt K ∗ levAts L lv) := by unfold env; exact BI.Entails.refl _

/-! ## Loads and stores of a whole buffer -/

theorem wp_load_a {h} {hl} {α : Type} {Q : α → sProp 𝕄} {k : Vec F S4096x256 .f32 → Prog (TpuEff nD τ sig (Elt F) Λ₀ .tc) α} :
    ((((c : Thread nD τ).loc cc0_stg0_0) ↦{fullShare} (X c)) : sProp 𝕄)
      ⊢ iprop(((((c : Thread nD τ).loc cc0_stg0_0) ↦{fullShare} (X c)) -∗ wp frame (wpE (defs₀ (F := F)) 𝒱₀ (c : Thread nD τ) none) Set.univ (k (X c)) Q)
          -∗ wp frame (wpE (defs₀ (F := F)) 𝒱₀ (c : Thread nD τ) none) Set.univ
              (.op (.load aM (Rect.unit (s := S4096x256) ![0, 0] S4096x256.size h).toLoadRect hl) k) Q) := by
  have e : (aM : Memref sig .tc .vmem S4096x256 .f32).view.readAt (Elt F) (Rect.unit (s := S4096x256) ![0, 0] S4096x256.size h).toLoadRect (X c) = X c :=
    Memref.readAt_unit_zero (Elt F) cc0_stg0_0 hz2 _ (X c)
  have := wp_load (defs := defs₀ (F := F)) (Γ := PendingWaitsCtx.empty) 𝒱₀ (c : Thread nD τ) none Set.univ (m := aM) (hl := hl) (k := k) (Q := Q) (f := X c) (q := fullShare) (Finset.subset_univ _)
  rw [e] at this
  exact this

theorem wp_load_m (f : Vec F S16x128 .f32) {h} {hl} {α : Type} {Q : α → sProp 𝕄} {k : Vec F S16x128 .f32 → Prog (TpuEff nD τ sig (Elt F) Λ₀ .tc) α} :
    ((((c : Thread nD τ).loc cc0_scratch2) ↦{fullShare} f) : sProp 𝕄)
      ⊢ iprop(((((c : Thread nD τ).loc cc0_scratch2) ↦{fullShare} f) -∗ wp frame (wpE (defs₀ (F := F)) 𝒱₀ (c : Thread nD τ) none) Set.univ (k f) Q)
          -∗ wp frame (wpE (defs₀ (F := F)) 𝒱₀ (c : Thread nD τ) none) Set.univ
              (.op (.load mM (Rect.unit (s := S16x128) ![0, 0] S16x128.size h).toLoadRect hl) k) Q) := by
  have e : (mM : Memref sig .tc .vmem S16x128 .f32).view.readAt (Elt F) (Rect.unit (s := S16x128) ![0, 0] S16x128.size h).toLoadRect f = f :=
    Memref.readAt_unit_zero (Elt F) cc0_scratch2 hz2 _ f
  have := wp_load (defs := defs₀ (F := F)) (Γ := PendingWaitsCtx.empty) 𝒱₀ (c : Thread nD τ) none Set.univ (m := mM) (hl := hl) (k := k) (Q := Q) (f := f) (q := fullShare) (Finset.subset_univ _)
  rw [e] at this
  exact this

theorem wp_store_x (f : Vec F S4096x256 .bf16) {h} {h1 h2} {α : Type} {Q : α → sProp 𝕄} {k : PUnit → Prog (TpuEff nD τ sig (Elt F) Λ₀ .tc) α} :
    ((((c : Thread nD τ).loc cc0_scratch0) ↦{fullShare} f) : sProp 𝕄)
      ⊢ iprop(((((c : Thread nD τ).loc cc0_scratch0) ↦{fullShare} (xbf X c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.store xM (Rect.unit (s := S4096x256) ![0, 0] S4096x256.size h) (k0_pay2 (X c)) Finset.univ h1 h2) k) Q) := by
  have e : (xM.access (Rect.unit (s := S4096x256) ![0, 0] S4096x256.size h) : View sig .tc _ _ _).write (Elt F) f (k0_pay2 (X c)) Finset.univ = xbf X c :=
    Memref.write_access_unit_zero_univ (Elt F) cc0_scratch0 hz2 _ f (k0_pay2 (X c))
  rw [← e]
  exact wp_store 𝒱₀ (c : Thread nD τ) none Set.univ (m := xM) (r := Rect.unit (s := S4096x256) ![0, 0] S4096x256.size h) (Mk := Finset.univ) (Finset.subset_univ _)

theorem wp_store_o (f w : Vec F S256x2048 .f32) {h} {h1 h2} {α : Type} {Q : α → sProp 𝕄} {k : PUnit → Prog (TpuEff nD τ sig (Elt F) Λ₀ .tc) α} :
    ((((c : Thread nD τ).loc cc0_stg2_0) ↦{fullShare} f) : sProp 𝕄)
      ⊢ iprop(((((c : Thread nD τ).loc cc0_stg2_0) ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S256x2048) ![0, 0] S256x2048.size h) w Finset.univ h1 h2) k) Q) := by
  have e : (oM.access (Rect.unit (s := S256x2048) ![0, 0] S256x2048.size h) : View sig .tc _ _ _).write (Elt F) f w Finset.univ = w :=
    Memref.write_access_unit_zero_univ (Elt F) cc0_stg2_0 hz2 _ f w
  have := wp_store (defs := defs₀ (F := F)) (Γ := PendingWaitsCtx.empty) 𝒱₀ (c : Thread nD τ) none Set.univ (m := oM) (r := Rect.unit (s := S256x2048) ![0, 0] S256x2048.size h) (w := w) (Mk := Finset.univ)
    (hx := h1) (hm := h2) (k := k) (Q := Q) (f := f) (Finset.subset_univ _)
  rw [e] at this
  exact this

/-! ## The first half -/

def pre1 : sProp 𝕄 :=
  iprop(env (F := F) X Wt K ∗ owesE c (O₀ c) ∗ cred (tallyAt (barCell c) () 15) ∗ atPos ER (barCell c) 0 ∅ 0
    ∗ each (fun t => dutyTok ER (barCell (nbr c t)) 0 c)
    ∗ each (fun t => dutyTok ER (dcell 0 (nbr c t) c) 0 (nbr c t)) ∗ each (fun t => dutyTok ER (dcell 1 c (nbr c t)) 0 c)
    ∗ (∃ f : Vec F S4096x256 .bf16, ((c : Thread nD τ).loc cc0_scratch0) ↦{fullShare} f)
    ∗ (∃ f : Vec F S16x256x256 .bf16, ((c : Thread nD τ).loc cc0_scratch1) ↦{fullShare} f)
    ∗ (∃ f : Vec F S16x128 .f32, ((c : Thread nD τ).loc cc0_scratch2) ↦{fullShare} f)
    ∗ (((c : Thread nD τ).loc cc0_stg0_0) ↦{fullShare} (X c)) ∗ (((c : Thread nD τ).loc cc0_stg1_0) ↦{fullShare} (Wt c)))

def post1 : sProp 𝕄 :=
  iprop(owesE (F := F) c (O₂ c) ∗ semVal (barCell c) 0 ∗ (((c : Thread nD τ).loc cc0_stg0_0) ↦{fullShare} (X c)) ∗ (((c : Thread nD τ).loc cc0_stg1_0) ↦{fullShare} (Wt c))
    ∗ slabP c c (xbf X c) ∗ slotP c c (commAll X c) ∗ (∃ f, rowP (F := F) c c f)
    ∗ each (done2 (F := F) c) ∗ each (fun t => iprop(∃ f, rowP (F := F) (nbr c t) c f)))

omit [FloatOps F] [Named F] in
theorem slot_any : (iprop(∃ f : Vec F S16x256x256 .bf16, ((c : Thread nD τ).loc cc0_scratch1) ↦{fullShare} f) : sProp 𝕄)
    ⊢ iprop((∃ f, slotP (F := F) c c f) ∗ each fun t => iprop(∃ f, slotP (F := F) c (nbr c t) f)) := by
  iintro ⟨%f, H⟩
  ihave H := (Entails.of_eq ((slot_cut c f).trans (bigSep_nbr c _))) $$ H
  icases H with ⟨H0, H⟩
  isplitl [H0]; · iexists f; iexact H0
  have hm : each (fun t => slotP (F := F) c (nbr c t) f) ⊢ each fun t => iprop(∃ f, slotP (F := F) c (nbr c t) f) :=
    bigSep_mono fun t _ => show slotP (F := F) c (nbr c t) f ⊢ iprop(∃ f, slotP (F := F) c (nbr c t) f) from by iintro H; iexists f; iexact H
  iapply hm; iexact H
omit [FloatOps F] [Named F] in
theorem row_any : (iprop(∃ f : Vec F S16x128 .f32, ((c : Thread nD τ).loc cc0_scratch2) ↦{fullShare} f) : sProp 𝕄)
    ⊢ iprop((∃ f, rowP (F := F) c c f) ∗ each fun t => iprop(∃ f, rowP (F := F) c (nbr c t) f)) := by
  iintro ⟨%f, H⟩
  ihave H := (Entails.of_eq ((row_cut c f).trans (bigSep_nbr c _))) $$ H
  icases H with ⟨H0, H⟩
  isplitl [H0]; · iexists f; iexact H0
  have hm : each (fun t => rowP (F := F) c (nbr c t) f) ⊢ each fun t => iprop(∃ f, rowP (F := F) c (nbr c t) f) :=
    bigSep_mono fun t _ => show rowP (F := F) c (nbr c t) f ⊢ iprop(∃ f, rowP (F := F) c (nbr c t) f) from by iintro H; iexists f; iexact H
  iapply hm; iexact H

theorem todo1_intro : iprop(each (fun t => dutyTok ER (barCell (nbr c t)) 0 c) ∗ each (fun t => iprop(∃ f, slotP (F := F) c (nbr c t) f))
      ∗ each (fun t => iprop(∃ f, rowP (F := F) c (nbr c t) f))) ⊢ bigSep (Finset.Ico 0 15) (todo1 (F := F) c) := by
  rw [bigSep_todo_zero, ← bigSep_sep', ← bigSep_sep']
  exact bigSep_mono fun t _ => by unfold todo1 barPay; exact BI.Entails.refl _
theorem todo2_intro : iprop(each (fun t => slabP c (nbr c t) (xbf X c)) ∗ each (fun t => iprop(∃ f, slotP (F := F) (nbr c t) c f))
      ∗ each (fun t => dutyTok ER (dcell 0 (nbr c t) c) 0 (nbr c t)) ∗ each (fun t => dutyTok ER (dcell 1 c (nbr c t)) 0 c))
      ⊢ bigSep (Finset.Ico 0 15) (todo2 (F := F) X c) := by
  rw [bigSep_todo_zero, ← bigSep_sep', ← bigSep_sep', ← bigSep_sep']
  exact bigSep_mono fun t _ => by unfold todo2; exact BI.Entails.refl _
omit [FloatOps F] [Named F] in
theorem bar_brought : each (fun t => barPay (F := F) c (nbr c t))
    = iprop(each (fun t => iprop(∃ f, slotP (F := F) (nbr c t) c f)) ∗ each (fun t => iprop(∃ f, rowP (F := F) (nbr c t) c f))) := by
  rw [← bigSep_sep']; rfl

set_option maxHeartbeats 800000 in
theorem part1 {Q : (Σ' (d0 : Dev nD) (v2 : BitVec 32) (v27 : FVec F S256x2048 .f32), BitVec 32) → sProp 𝕄} :
    iprop(pre1 (F := F) X Wt K c ∗ (∀ v2, post1 (F := F) X Wt c -∗ Q ⟨c, v2, yAcc X Wt c 0, 1#32⟩))
      ⊢ wp frame (wpE (defs₀ (F := F)) 𝒱₀ (c : Thread nD τ) none) Set.univ
        (k0_part1 aM (Memref.isWhole_whole _) wM (Memref.isWhole_whole _) oM (Memref.isWhole_whole _) xM (Memref.isWhole_whole _) cM (Memref.isWhole_whole _)
          mM (Memref.isWhole_whole _) cc0_scratch3 cc0_scratch4 cc0_scratch5 cc0_scratch6) Q := by
  simp only [k0_part1_eq_skeleton]; unfold k0_part1_skel
  simp only [semWaitWord, Prog.lift, Prog.bind_op, Prog.bind_ret, Prog.pure_eq_ret, wp_deviceId]
  unfold pre1
  iintro ⟨⟨#HE, HO, Hcb, Hab, Htb, Ht0, Ht1, Hx, Hc, Hm, Ha, Hw⟩, HQ⟩
  ihave HE' := (env_split X Wt K) $$ HE
  icases HE' with ⟨#HR, #Hlev⟩
  ihave Hc := (slot_any (F := F) c) $$ Hc
  icases Hc with ⟨Hcc, Hcs⟩
  ihave Hm := (row_any (F := F) c) $$ Hm
  icases Hm with ⟨Hmc, Hms⟩
  -- the signals
  iapply (Scf.wp_for_bind _ _ _ _ _ _ k0_t1_ok _ _ (inv1 (F := F) X Wt K c) (trip1 X Wt K c)) $$ [HO Htb Hcs Hms]
  · unfold inv1 O₀
    isplitr; · iexact HE
    isplitl [HO]; · iexact HO
    iapply (todo1_intro (F := F) c)
    isplitl [Htb]; · iexact Htb
    isplitl [Hcs] <;> iassumption
  iintro %_ HI
  unfold inv1
  icases HI with ⟨-, HO, -⟩
  rw [show Scf.trips _ _ _ = 15 from trips1, pend_end, zero_add]
  -- the barrier
  iapply (wp_waitbar X Wt K c (below₁ c)) $$ [Hcb Hab HO]
  · isplitr; · iexact HR
    isplitr; · iexact Hlev
    isplitl [Hcb]; · iexact Hcb
    isplitl [HO] <;> iassumption
  iintro ⟨HO, Hzb, Hb⟩
  ihave Hb := (Entails.of_eq (bar_brought (F := F) c)) $$ Hb
  icases Hb with ⟨Hps, Hpr⟩
  -- the rounded block
  iapply (wp_load_a X c) $$ Ha; iintro Ha
  icases Hx with ⟨%fx, Hx⟩
  iapply (wp_load 𝒱₀ (c : Thread nD τ) none Set.univ (m := xM) (Finset.subset_univ _)) $$ Hx; iintro Hx
  iapply (wp_store_x X c) $$ Hx; iintro Hx
  ihave Hx := (Entails.of_eq ((slab_cut c (xbf X c)).trans (bigSep_nbr c _))) $$ Hx
  icases Hx with ⟨Hxc, Hxs⟩
  -- the copies
  iapply (Scf.wp_for_bind _ _ _ _ _ _ k0_t2_ok _ _ (inv2 (F := F) X Wt K c) (trip2 X Wt K c)) $$ [HO Hxs Hps Ht0 Ht1]
  · unfold inv2 O₁
    isplitr; · iexact HE
    isplitl [HO]; · iexact HO
    isplitl [Hxs Hps Ht0 Ht1]
    · iapply (todo2_intro (F := F) X c)
      isplitl [Hxs]; · iexact Hxs
      isplitl [Hps]; · iexact Hps
      isplitl [Ht0] <;> iassumption
    · rw [Finset.range_zero, bigSep_empty]; iempintro
  iintro %_ HI
  unfold inv2
  icases HI with ⟨-, HO, -, Hcr⟩
  rw [show Scf.trips _ _ _ = 15 from trips2, pend_end, zero_add]
  -- the own block
  iapply (wp_load_slab X c c (k0_off5_eq c)) $$ Hxc; iintro Hxc
  icases Hcc with ⟨%fc, Hcc⟩
  iapply (wp_load_slot_any c c fc (k0_off6_eq c)) $$ Hcc; iintro %_ Hcc
  iapply (wp_store_slot X c fc (k0_off6_eq c)) $$ Hcc; iintro Hcc
  iapply (wp_load_slot X c c (k0_off6_eq c)) $$ Hcc; iintro Hcc
  iapply (wp_load_w Wt c c (k0_off7_eq c)) $$ Hw; iintro Hw
  rw [wp_ret]; imodintro
  rw [show k0_pay4 (slotV X c c) (wV Wt c c) = yAcc X Wt c 0 from rfl]
  iapply HQ
  unfold post1
  isplitl [HO]; · iexact HO
  isplitl [Hzb]; · iexact Hzb
  isplitl [Ha]; · iexact Ha
  isplitl [Hw]; · iexact Hw
  isplitl [Hxc]; · iexact Hxc
  isplitl [Hcc]; · iexact Hcc
  isplitl [Hmc]; · iexact Hmc
  isplitl [Hcr] <;> iassumption

/-! ## The second half -/

def pre2 : sProp 𝕄 :=
  iprop(env (F := F) X Wt K ∗ post1 (F := F) X Wt c ∗ each (todo3 (F := F) c) ∗ each (fun t => atPos ER (dcell 0 (nbr c t) c) 0 ∅ 0)
    ∗ each (fun t => dutyTok ER (dcell 2 (nbr c t) c) 0 (nbr c t)) ∗ each (fun t => dutyTok ER (dcell 3 c (nbr c t)) 0 c)
    ∗ each (todo6 (F := F) c) ∗ each (fun t => atPos ER (dcell 2 (nbr c t) c) 0 ∅ 0))

/-- What a device holds at the end but for its result and its own cells. -/
def post2 : sProp 𝕄 :=
  iprop(owesE (F := F) c 0 ∗ semVal (barCell c) 0 ∗ (((c : Thread nD τ).loc cc0_stg0_0) ↦{fullShare} (X c)) ∗ (((c : Thread nD τ).loc cc0_stg1_0) ↦{fullShare} (Wt c))
    ∗ (((c : Thread nD τ).loc cc0_scratch0) ↦{fullShare} (xbf X c)) ∗ (((c : Thread nD τ).loc cc0_scratch1) ↦{fullShare} (commAll X c))
    ∗ (((c : Thread nD τ).loc cc0_scratch2) ↦{fullShare} (amaxAll X Wt))
    ∗ each (fun t => semVal (dcell 0 (nbr c t) c) 0) ∗ each (fun t => semVal (dcell 1 (src c t) c) 0)
    ∗ each (fun t => semVal (dcell 2 (nbr c t) c) 0) ∗ each (fun t => semVal (dcell 3 (nbr c t) c) 0))

theorem slab_back : iprop(slabP c c (xbf X c) ∗ each (done4 (F := F) X c))
    ⊢ iprop((((c : Thread nD τ).loc cc0_scratch0) ↦{fullShare} (xbf X c)) ∗ each fun t => semVal (dcell 0 (nbr c t) c) 0) := by
  unfold done4
  rw [each, bigSep_sep', slab_cut, bigSep_nbr c]
  iintro ⟨H0, H1, H2⟩
  isplitl [H0 H1]
  · isplitl [H0] <;> iassumption
  iexact H2
theorem slot_back : iprop(slotP c c (commAll X c) ∗ each (done3 (F := F) X c))
    ⊢ iprop((((c : Thread nD τ).loc cc0_scratch1) ↦{fullShare} (commAll X c)) ∗ each fun t => semVal (dcell 1 (src c t) c) 0) := by
  unfold done3
  rw [each, bigSep_sep', slot_cut, bigSep_src c]
  iintro ⟨H0, H1, H2⟩
  isplitl [H0 H1]
  · isplitl [H0] <;> iassumption
  iexact H2
theorem row_back : iprop(rowQ (lf c) c c (amaxAll X Wt) ∗ each (done7 (F := F) X Wt c) ∗ each (done6 (F := F) X Wt c))
    ⊢ iprop((((c : Thread nD τ).loc cc0_scratch2) ↦{fullShare} (amaxAll X Wt)) ∗ (each fun t => semVal (dcell 2 (nbr c t) c) 0)
      ∗ each fun t => semVal (dcell 3 (nbr c t) c) 0) := by
  unfold done6 done7
  rw [each, each, bigSep_sep', bigSep_sep', row_cut, bigSep_nbr c (fun j => rowP c j (amaxAll X Wt)), row_shares c c,
    bigSep_nbr c (fun p => rowQ (lf p) c c (amaxAll X Wt))]
  iintro ⟨H0, ⟨H1, H2⟩, H3, H4⟩
  isplitl [H0 H1 H3]
  · isplitl [H0 H1]
    · isplitl [H0] <;> iassumption
    iexact H3
  isplitl [H2] <;> iassumption

theorem todo4_intro : iprop(each (fun t => atPos ER (dcell 0 (nbr c t) c) 0 ∅ 0) ∗ each (done2 (F := F) c)) ⊢ bigSep (Finset.Ico 0 15) (todo4 (F := F) c) := by
  rw [bigSep_todo_zero, ← bigSep_sep']
  exact bigSep_mono fun t _ => by unfold todo4 done2; exact BI.Entails.refl _
theorem todo5_intro : iprop(each (fun t => rowQ (lf (nbr c t)) c c (amaxAll X Wt)) ∗ each (fun t => iprop(∃ f, rowP (F := F) (nbr c t) c f))
      ∗ each (fun t => dutyTok ER (dcell 2 (nbr c t) c) 0 (nbr c t)) ∗ each (fun t => dutyTok ER (dcell 3 c (nbr c t)) 0 c))
      ⊢ bigSep (Finset.Ico 0 15) (todo5 (F := F) X Wt c) := by
  rw [bigSep_todo_zero, ← bigSep_sep', ← bigSep_sep', ← bigSep_sep']
  exact bigSep_mono fun t _ => by unfold todo5; exact BI.Entails.refl _
theorem todo7_intro : iprop(each (fun t => atPos ER (dcell 2 (nbr c t) c) 0 ∅ 0) ∗ each (done5 (F := F) c)) ⊢ bigSep (Finset.Ico 0 15) (todo7 (F := F) c) := by
  rw [bigSep_todo_zero, ← bigSep_sep']
  exact bigSep_mono fun t _ => by unfold todo7 done5; exact BI.Entails.refl _

set_option maxHeartbeats 1600000 in
theorem part2 (v2 : BitVec 32) (c1 : BitVec 32)
    {Q : (Σ' (v49 : F .f32) (v51 : FVec F S256x2048 .f32) (v52 : FVec F S256x2048 .f32) (v53 : FVec F S256x2048 .f32), IVec S256x2048 1) → sProp 𝕄} :
    iprop(pre2 (F := F) X Wt K c ∗ (post2 (F := F) X Wt c -∗ Q ⟨k0_pay7 (amaxAll X Wt), k0_pay8 (yV X Wt c) (amaxAll X Wt), k0_pay9 (yV X Wt c) (amaxAll X Wt), k0_pay10,
        k0_pay11 (yV X Wt c) (amaxAll X Wt)⟩))
      ⊢ wp frame (wpE (defs₀ (F := F)) 𝒱₀ (c : Thread nD τ) none) Set.univ
        (k0_part2 aM (Memref.isWhole_whole _) wM (Memref.isWhole_whole _) oM (Memref.isWhole_whole _) xM (Memref.isWhole_whole _) cM (Memref.isWhole_whole _)
          mM (Memref.isWhole_whole _) cc0_scratch3 cc0_scratch4 cc0_scratch5 cc0_scratch6 c v2 (yAcc X Wt c 0) c1) Q := by
  simp only [k0_part2_eq_skeleton]; unfold k0_part2_skel
  simp only [Prog.lift, Prog.bind_op, Prog.bind_ret, Prog.pure_eq_ret]
  unfold pre2 post1
  iintro ⟨⟨#HE, ⟨HO, Hzb, Ha, Hw, Hxc, Hcc, Hmc, Hcr0, Hpr⟩, H3, Hat0, Ht2, Ht3, H6, Hat2⟩, HQ⟩
  -- the landings and the product
  iapply (Scf.wp_for_bind _ _ _ _ _ _ k0_t3_ok _ _ (inv3 (F := F) X Wt K c) (trip3 X Wt K c v2 (yAcc X Wt c 0) c1)) $$ [HO Hw H3]
  · unfold inv3
    isplitr; · ipureintro; rfl
    isplitr; · iexact HE
    isplitl [HO]; · iexact HO
    isplitl [Hw]; · iexact Hw
    isplitl [H3]; · rw [bigSep_todo_zero]; iexact H3
    rw [Finset.range_zero, bigSep_empty]; iempintro
  iintro %acc HI
  unfold inv3
  icases HI with ⟨%hacc, -, HO, Hw, -, Hd3⟩
  rw [show Scf.trips _ _ _ = 15 from trips3] at hacc
  rw [show Scf.trips _ _ _ = 15 from trips3]
  obtain rfl : acc = yV X Wt c := hacc
  ihave Hc := (slot_back X c) $$ [Hcc Hd3]
  · isplitl [Hcc] <;> iassumption
  icases Hc with ⟨Hc, Hz1⟩
  -- the sources back
  iapply (Scf.wp_for_bind _ _ _ _ _ _ k0_t4_ok _ _ (inv4 (F := F) X Wt K c) (trip4 X Wt K c v2 (yAcc X Wt c 0) c1)) $$ [HO Hat0 Hcr0]
  · unfold inv4
    isplitr; · iexact HE
    isplitl [HO]; · iexact HO
    isplitl [Hat0 Hcr0]
    · iapply (todo4_intro (F := F) c)
      isplitl [Hat0] <;> iassumption
    rw [Finset.range_zero, bigSep_empty]; iempintro
  iintro %_ HI
  unfold inv4
  icases HI with ⟨-, HO, -, Hd4⟩
  rw [show Scf.trips _ _ _ = 15 from trips4]
  ihave Hx := (slab_back X c) $$ [Hxc Hd4]
  · isplitl [Hxc] <;> iassumption
  icases Hx with ⟨Hx, Hz0⟩
  -- the own row of maxima
  icases Hmc with ⟨%fm, Hmc⟩
  iapply (wp_load_row_any c c fm (k0_off15_eq c)) $$ Hmc; iintro %_ Hmc
  iapply (wp_store_row X Wt c fm (k0_off15_eq c)) $$ Hmc; iintro Hmc
  ihave Hmc := (Entails.of_eq ((row_shares c c (amaxAll X Wt)).trans (bigSep_nbr c _))) $$ Hmc
  icases Hmc with ⟨Hmc, Hms⟩
  iapply (Scf.wp_for_bind _ _ _ _ _ _ k0_t5_ok _ _ (inv5 (F := F) X Wt K c) (trip5 X Wt K c v2 (yAcc X Wt c 0) c1)) $$ [HO Hms Hpr Ht2 Ht3]
  · unfold inv5 O₂
    isplitr; · iexact HE
    isplitl [HO]; · iexact HO
    isplitl [Hms Hpr Ht2 Ht3]
    · iapply (todo5_intro (F := F) X Wt c)
      isplitl [Hms]; · iexact Hms
      isplitl [Hpr]; · iexact Hpr
      isplitl [Ht2] <;> iassumption
    rw [Finset.range_zero, bigSep_empty]; iempintro
  iintro %_ HI
  unfold inv5
  icases HI with ⟨-, HO, -, Hd5⟩
  rw [show Scf.trips _ _ _ = 15 from trips5, pend_end]
  iapply (Scf.wp_for_bind _ _ _ _ _ _ k0_t6_ok _ _ (inv6 (F := F) X Wt K c) (trip6 X Wt K c v2 (yAcc X Wt c 0) c1)) $$ [HO H6]
  · unfold inv6
    isplitr; · iexact HE
    isplitl [HO]; · iexact HO
    isplitl [H6]; · rw [bigSep_todo_zero]; iexact H6
    rw [Finset.range_zero, bigSep_empty]; iempintro
  iintro %_ HI
  unfold inv6
  icases HI with ⟨-, HO, -, Hd6⟩
  rw [show Scf.trips _ _ _ = 15 from trips6]
  iapply (Scf.wp_for_bind _ _ _ _ _ _ k0_t7_ok _ _ (inv7 (F := F) X Wt K c) (trip7 X Wt K c v2 (yAcc X Wt c 0) c1)) $$ [HO Hat2 Hd5]
  · unfold inv7
    isplitr; · iexact HE
    isplitl [HO]; · iexact HO
    isplitl [Hat2 Hd5]
    · iapply (todo7_intro (F := F) c)
      isplitl [Hat2] <;> iassumption
    rw [Finset.range_zero, bigSep_empty]; iempintro
  iintro %_ HI
  unfold inv7
  icases HI with ⟨-, HO, -, Hd7⟩
  rw [show Scf.trips _ _ _ = 15 from trips7]
  ihave Hm := (row_back X Wt c) $$ [Hmc Hd7 Hd6]
  · isplitl [Hmc]; · iexact Hmc
    isplitl [Hd7] <;> iassumption
  icases Hm with ⟨Hm, Hz2, Hz3⟩
  iapply (wp_load_m c (amaxAll X Wt)) $$ Hm; iintro Hm
  rw [wp_ret]; imodintro
  iapply HQ
  unfold post2
  isplitl [HO]; · iexact HO
  isplitl [Hzb]; · iexact Hzb
  isplitl [Ha]; · iexact Ha
  isplitl [Hw]; · iexact Hw
  isplitl [Hx]; · iexact Hx
  isplitl [Hc]; · iexact Hc
  isplitl [Hm]; · iexact Hm
  isplitl [Hz0]; · iexact Hz0
  isplitl [Hz1]; · iexact Hz1
  isplitl [Hz2] <;> iassumption

/-! ## The whole body -/

/-- A device's own index of one of the arrays was never used. -/
theorem own_close (k : Fin 4) : iprop(env (F := F) X Wt K ∗ atPos ER (dcell k c c) 0 ∅ 0) ⊢ iprop(|={Set.univ}=> semVal (dcell k c c) 0) := by
  unfold env
  iintro ⟨⟨#HR, -⟩, Hat⟩
  ihave #HI := (recs_inv X Wt K (c, some (k, c))) $$ HR
  iapply (Rounds.cell_close ER (netRd X Wt) (Set.mem_univ (K (c, some (k, c)))) (fun h => h) (R := 0) (fun r _ => duties_own X Wt c k r))
  isplitr; · iexact HI
  iexact Hat

/-- The second half's resources that the first half does not use. -/
def late : sProp 𝕄 :=
  iprop(each (todo3 (F := F) c) ∗ each (fun t => atPos ER (dcell 0 (nbr c t) c) 0 ∅ 0)
    ∗ each (fun t => dutyTok ER (dcell 2 (nbr c t) c) 0 (nbr c t)) ∗ each (fun t => dutyTok ER (dcell 3 c (nbr c t)) 0 c)
    ∗ each (todo6 (F := F) c) ∗ each (fun t => atPos ER (dcell 2 (nbr c t) c) 0 ∅ 0))

/-- A device's positions at its own index of the four arrays, and those cells at zero. -/
def ownAt : sProp 𝕄 :=
  iprop(atPos ER (dcell 0 c c) 0 ∅ 0 ∗ atPos ER (dcell 1 c c) 0 ∅ 0 ∗ atPos ER (dcell 2 c c) 0 ∅ 0 ∗ atPos ER (dcell 3 c c) 0 ∅ 0)
def ownZero : sProp 𝕄 :=
  iprop(semVal (dcell 0 c c) 0 ∗ semVal (dcell 1 c c) 0 ∗ semVal (dcell 2 c c) 0 ∗ semVal (dcell 3 c c) 0)

set_option maxHeartbeats 1600000 in
theorem sound_body {Q : PUnit → sProp 𝕄} :
    iprop(env (F := F) X Wt K ∗ pre1 (F := F) X Wt K c ∗ late (F := F) c ∗ ownAt (F := F) c ∗ (∃ f : Vec F S256x2048 .f32, ((c : Thread nD τ).loc cc0_stg2_0) ↦{fullShare} f)
        ∗ ((post2 (F := F) X Wt c ∗ ownZero (F := F) c ∗ (((c : Thread nD τ).loc cc0_stg2_0) ↦{fullShare} (outV X Wt c))) -∗ Q ⟨⟩))
      ⊢ wp frame (wpE (defs₀ (F := F)) 𝒱₀ (c : Thread nD τ) none) Set.univ
        (cc0_body aM (Memref.isWhole_whole _) wM (Memref.isWhole_whole _) oM (Memref.isWhole_whole _) xM (Memref.isWhole_whole _) cM (Memref.isWhole_whole _)
          mM (Memref.isWhole_whole _) cc0_scratch3 cc0_scratch4 cc0_scratch5 cc0_scratch6) Q := by
  simp only [cc0_body_eq_skeleton]; unfold cc0_body_skel
  iintro ⟨#HE, Hp, Hl, Hat, ⟨%fo, Ho⟩, HQ⟩
  rw [wp_bind]
  iapply (part1 X Wt K c)
  isplitl [Hp]; · iexact Hp
  iintro %v2 Hp
  unfold late
  icases Hl with ⟨H3, Hat0, Ht2, Ht3, H6, Hat2⟩
  rw [wp_bind]
  iapply (part2 X Wt K c v2 1#32)
  isplitl [Hp H3 Hat0 Ht2 Ht3 H6 Hat2]
  · unfold pre2
    isplitr; · iexact HE
    isplitl [Hp]; · iexact Hp
    isplitl [H3]; · iexact H3
    isplitl [Hat0]; · iexact Hat0
    isplitl [Ht2]; · iexact Ht2
    isplitl [Ht3]; · iexact Ht3
    isplitl [H6] <;> iassumption
  iintro Hp
  simp only [k0_part3_eq_skeleton]; unfold k0_part3_skel
  simp only [Prog.lift, Prog.bind_op, Prog.bind_ret, Prog.pure_eq_ret]
  unfold ownAt
  icases Hat with ⟨Hz0, Hz1, Hz2, Hz3⟩
  imod (own_close X Wt K c 0) $$ [Hz0] with Hz0
  · isplitr; · iexact HE
    iexact Hz0
  imod (own_close X Wt K c 1) $$ [Hz1] with Hz1
  · isplitr; · iexact HE
    iexact Hz1
  imod (own_close X Wt K c 2) $$ [Hz2] with Hz2
  · isplitr; · iexact HE
    iexact Hz2
  imod (own_close X Wt K c 3) $$ [Hz3] with Hz3
  · isplitr; · iexact HE
    iexact Hz3
  iapply (wp_load 𝒱₀ (c : Thread nD τ) none Set.univ (m := oM) (Finset.subset_univ _)) $$ Ho; iintro Ho
  iapply (wp_store_o c fo _) $$ Ho; iintro Ho
  rw [wp_ret]; imodintro
  iapply HQ
  isplitl [Hp]; · iexact Hp
  isplitl [Hz0 Hz1 Hz2 Hz3]
  · unfold ownZero
    isplitl [Hz0]; · iexact Hz0
    isplitl [Hz1]; · iexact Hz1
    isplitl [Hz2] <;> iassumption
  unfold outV; iexact Ho

end Cert.KernelIdeal.Net

end
-- ==== Proof.Launch.lean ====
/-
The launch: the ghost state of every device's cells made and dealt, each device's body run by `Body`, and what every
execution of the program leaves: the arguments as they were, the result arrays at `outV`, every counter at zero.
-/
module

public import proofs.«01_k».proof.Proof.Body
public import proofs.«01_k».proof.Proof.Gen.KernelIdeal.Points
public import Idealize.ShloMosaic.Lib.Pipeline.CollectiveSegs
public import Idealize.ShloMosaic.Lib.StableHlo.RunHlo

@[expose] public section

noncomputable section

namespace Cert.KernelIdeal.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-- The two arguments of each device. -/
def xA (c : Dev nD) : Vec F S4096x256 .f32 := m ((c : Thread nD τ).loc main_arg0)
def wA (c : Dev nD) : Vec F S4096x2048 .f32 := m ((c : Thread nD τ).loc main_arg1)

/-! ## Families over a device's cells -/

abbrev KI : Type := Option (Fin 4 × Dev nD)

section Families
variable {M : Type} [URA M]
theorem option_split {β : Type} [Fintype β] [DecidableEq β] (Φ : Option β → sProp M) :
    bigSep Finset.univ Φ = iprop(Φ none ∗ bigSep Finset.univ fun b => Φ (some b)) := by
  have e : (Finset.univ : Finset (Option β)) = insert none (Finset.univ.map Function.Embedding.some) := by
    ext o; cases o <;> simp
  rw [e, bigSep_insert (by simp), bigSep_map]; rfl
theorem four_split (Φ : Fin 4 × Dev nD → sProp M) :
    bigSep Finset.univ Φ = iprop((bigSep Finset.univ fun j => Φ (0, j)) ∗ (bigSep Finset.univ fun j => Φ (1, j))
      ∗ (bigSep Finset.univ fun j => Φ (2, j)) ∗ bigSep Finset.univ fun j => Φ (3, j)) := by
  rw [bigSep_univ_prod, bigSep_univ_eq_bigSepL [0, 1, 2, 3] (by decide) (by decide)]; rfl
theorem cells_split (Φ : KI → sProp M) :
    bigSep Finset.univ Φ = iprop(Φ none ∗ (bigSep Finset.univ fun j => Φ (some (0, j))) ∗ (bigSep Finset.univ fun j => Φ (some (1, j)))
      ∗ (bigSep Finset.univ fun j => Φ (some (2, j))) ∗ bigSep Finset.univ fun j => Φ (some (3, j))) := by
  rw [option_split, four_split]
theorem five_split (Φ : Option (Fin 4) → sProp M) :
    bigSep Finset.univ Φ = iprop(Φ none ∗ Φ (some 0) ∗ Φ (some 1) ∗ Φ (some 2) ∗ Φ (some 3)) := by
  rw [bigSep_univ_eq_bigSepL [none, some 0, some 1, some 2, some 3] (by decide) (by decide)]; rfl
theorem others (c : Dev nD) (Φ : Dev nD → sProp M) : bigSep Finset.univ Φ ⊢ bigSep (Finset.range 15) fun t => Φ (nbr c t) := by
  rw [bigSep_nbr c]; exact sep_elim_right
end Families

/-! ## Tokens -/

/-- The duties a device pays, as tokens. -/
def payToks (c : Dev nD) : sProp 𝕄 :=
  iprop((bigSep Finset.univ fun p => dutyTok ER (barCell p) 0 c) ∗ (bigSep Finset.univ fun p => dutyTok ER (dcell 0 p c) 0 p)
    ∗ (bigSep Finset.univ fun p => dutyTok ER (dcell 1 c p) 0 c) ∗ (bigSep Finset.univ fun p => dutyTok ER (dcell 2 p c) 0 p)
    ∗ bigSep Finset.univ fun p => dutyTok ER (dcell 3 c p) 0 c)
/-- A token's place: cell, round and payer. -/
def tokOf (x : Dev nD × Dev nD × Option (Fin 4)) : GSem nD τ sig × ℕ × Dev nD := (kcell (x.1, x.2.2.map fun k => (k, x.2.1)), 0, x.2.1)
/-- The tokens of a device's own cells. -/
def toks (c : Dev nD) : sProp 𝕄 :=
  bigSep Finset.univ fun j : Dev nD => iprop(dutyTok ER (barCell c) 0 j ∗ dutyTok ER (dcell 0 j c) 0 j ∗ dutyTok ER (dcell 1 j c) 0 j
    ∗ dutyTok ER (dcell 2 j c) 0 j ∗ dutyTok ER (dcell 3 j c) 0 j)

theorem csem_inj : Function.Injective csem := by
  rintro (_ | ⟨k, j⟩) (_ | ⟨k', j'⟩) h
  · rfl
  · exact absurd h (by rintro ⟨⟩)
  · exact absurd h (by rintro ⟨⟩)
  · obtain ⟨rfl, rfl⟩ := dq_inj (SemLoc.dma.inj h); rfl
theorem kcell_inj : Function.Injective (kcell : Dev nD × KI → GSem nD τ sig) := by
  rintro ⟨c, k⟩ ⟨c', k'⟩ h
  obtain rfl : c = c' := congrArg (fun g : GSem nD τ sig => g.1.1) h
  obtain rfl : k = k' := csem_inj (congrArg Prod.snd h)
  rfl
theorem tokOf_inj : Function.Injective tokOf := by
  rintro ⟨c, j, o⟩ ⟨c', j', o'⟩ h
  obtain rfl : j = j' := congrArg (fun x : GSem nD τ sig × ℕ × Dev nD => x.2.2) h
  have h1 := kcell_inj (congrArg Prod.fst h)
  obtain rfl : c = c' := congrArg Prod.fst h1
  have h2 : o.map (fun k => (k, j)) = o'.map fun k => (k, j) := congrArg Prod.snd h1
  obtain rfl : o = o' := Option.map_injective (fun a b e => congrArg Prod.fst e) h2
  rfl

def netCells : Finset (GSem nD τ sig) := Finset.univ.map ⟨kcell, kcell_inj⟩
def netToks : Finset (GSem nD τ sig × ℕ × Dev nD) := Finset.univ.map ⟨tokOf, tokOf_inj⟩

def u₀ : UU := (initOf (Pipeline.cells cfgs cellOf_inj) (Pipeline.launchToks cfgs cellOf_inj), initOf netCells netToks)

omit [FloatOps F] [Named F] in
/-- Every device's own cells' tokens, dealt to the devices that pay. -/
theorem toks_around : (bigSep Finset.univ fun c : Dev nD => (toks c : sProp 𝕄)) ⊢ bigSep Finset.univ fun c : Dev nD => payToks c := by
  unfold toks payToks
  simp only [bigSep_sep']
  rw [bigSep_univ_comm (fun c j : Dev nD => (dutyTok ER (barCell c) 0 j : sProp 𝕄)),
    bigSep_univ_comm (fun c j : Dev nD => (dutyTok ER (dcell 1 j c) 0 j : sProp 𝕄)),
    bigSep_univ_comm (fun c j : Dev nD => (dutyTok ER (dcell 3 j c) 0 j : sProp 𝕄))]

/-! ## The cells -/

def G (c : Dev nD) : sProp 𝕄 :=
  iprop((bigSep Finset.univ fun k : KI => roundState ER (netRd (xA m) (wA m)) (kcell (c, k)) 0)
    ∗ (bigSep Finset.univ fun k : KI => iprop(atPos ER (kcell (c, k)) 0 ∅ 0 ∗ reached ER (kcell (c, k)) 0)) ∗ toks c)
def linear (c : Dev nD) : sProp 𝕄 := iprop((bigSep Finset.univ fun k : KI => atPos ER (kcell (c, k)) 0 ∅ 0) ∗ payToks c)
def G' (c : Dev nD) : sProp 𝕄 := iprop(∃ K, recs (xA m) (wA m) K ∗ linear c)

theorem fund_net : BI.own (ER (initOf netCells netToks)) ⊢ (|==> bigSep Finset.univ (G m) : sProp 𝕄) := by
  have hX (Φ : GSem nD τ sig → sProp 𝕄) : bigSep netCells Φ = bigSep Finset.univ fun c : Dev nD => bigSep Finset.univ fun k : KI => Φ (kcell (c, k)) := by
    unfold netCells; rw [bigSep_map, bigSep_univ_prod]; rfl
  have hT : bigSep netToks (fun x => (dutyTok ER x.1 x.2.1 x.2.2 : sProp 𝕄)) = bigSep Finset.univ fun c : Dev nD => toks c := by
    unfold netToks toks; rw [bigSep_map, bigSep_univ_prod]
    refine bigSep_congr fun c _ => ?_
    rw [bigSep_univ_prod]
    refine bigSep_congr fun j _ => ?_
    rw [five_split]; rfl
  iintro HX
  imod (Rounds.fund ER (netRd (xA m) (wA m)) netCells netToks) $$ HX with ⟨Hst, Hr, Hat, Htok⟩
  imodintro
  ihave Hst := (Entails.of_eq (hX fun g => roundState ER (netRd (xA m) (wA m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem ownSemFacts : Pipeline.OwnSemFacts cfg0.spec osem where
  isScoped := by decide +kernel
  inj := fun a b h => Option.some.inj (csem_inj (a₁ := some a) (a₂ := some b) h)
  disj := by decide +kernel

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] [Named F] in
theorem sems0_eq (c : Dev nD) :
    iprop(unscopedSems0 c ∗ Pipeline.ownSems0 (Ix := Unit) (Name := ℕ) (U := UU) (Lvl := ℕ) (Val := Elt F) (τ := τ) osem c)
      = (bigSep Finset.univ fun k : KI => semVal (kcell (c, k)) 0 : sProp 𝕄) := by
  rw [unscopedSems0_eq, option_split]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : KI => iprop(∃ κ : ℕ, cellInv ER (netRd (xA m) (wA m)) κ (kcell (c, k))))
          ∗ (bigSep Finset.univ fun k : KI => iprop(atPos ER (kcell (c, k)) 0 ∅ 0 ∗ reached ER (kcell (c, k)) 0)) ∗ toks c) := by
  have hI : iprop((bigSep Finset.univ fun k : KI => semVal (kcell (c, k)) 0)
        ∗ bigSep Finset.univ fun k : KI => roundState ER (netRd (xA m) (wA m)) (kcell (c, k)) 0)
      ⊢ (|={Set.univ}=> bigSep Finset.univ fun k => iprop(∃ κ : ℕ, cellInv ER (netRd (xA m) (wA m)) κ (kcell (c, k))) : sProp 𝕄) := by
    rw [← bigSep_sep']
    exact (bigSep_mono fun k _ => (Rounds.body_intro ER (netRd (xA m) (wA m)) (kcell (c, k))).trans inv_alloc).trans (bigSep_fupd _ _)
  unfold G
  iintro ⟨Hos, Hus, Hst, Hat, Htok⟩
  ihave Hv := (Entails.of_eq (sems0_eq (F := F) c)) $$ [Hos Hus]
  · isplitl [Hus] <;> iassumption
  imod hI $$ [Hv Hst] with Hinv
  · isplitl [Hv] <;> iassumption
  imodintro
  isplitl [Hinv]; · iexact Hinv
  isplitl [Hat] <;> iassumption

theorem regroup :
    (bigSep Finset.univ fun c : Dev nD => iprop((bigSep Finset.univ fun k : KI => iprop(∃ κ : ℕ, cellInv ER (netRd (xA m) (wA m)) κ (kcell (c, k))))
          ∗ (bigSep Finset.univ fun k : KI => iprop(atPos ER (kcell (c, k)) 0 ∅ 0 ∗ reached ER (kcell (c, k)) 0)) ∗ toks c) : sProp 𝕄)
      ⊢ bigSep Finset.univ (G' m) := by
  simp only [bigSep_sep']
  rw [← bigSep_univ_prod (fun ck : Dev nD × KI => iprop(∃ κ : ℕ, cellInv ER (netRd (xA m) (wA m)) κ (kcell ck))),
    ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (netRd (xA m) (wA m)) κ (kcell ck) : sProp 𝕄))) $$ HI
  icases HK with ⟨%K, #HI⟩
  ihave Htk := (toks_around (F := F)) $$ Htok
  have hm : iprop(recs (xA m) (wA m) K ∗ bigSep Finset.univ fun c : Dev nD => linear c) ⊢ bigSep Finset.univ (G' m) := by
    refine (sep_mono_left (BI.bigSep_of_persistent (Finset.univ : Finset (Dev nD)) (recs (xA m) (wA m) K))).trans ?_
    rw [← bigSep_sep']
    refine bigSep_mono fun c _ => ?_
    show iprop(recs (xA m) (wA m) K ∗ linear (F := F) c) ⊢ G' m c
    unfold G'
    iintro H; iexists K; iexact H
  iapply hm
  isplitr
  · unfold recs; isplitr <;> iassumption
  · unfold linear; rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe a device at launch -/

theorem pend_zero (f : Dev nD → CellTallies nD τ sig Unit) (c : Dev nD) : pend f c 0 = ∑ p ∈ Finset.univ.erase c, f p := by
  unfold pend
  rw [Nat.Ico_zero_eq_range, ← image_nbr, Finset.sum_image (fun a ha b hb e => injOn_nbr c ha hb e)]
theorem pend_apply (f : Dev nD → CellTallies nD τ sig Unit) (c : Dev nD) (g : GSem nD τ sig) :
    pend f c 0 g () = ∑ p ∈ Finset.univ.erase c, f p g () := by
  rw [pend_zero, Finset.sum_apply, Finsupp.finset_sum_apply]

theorem bar_iff {a b : Dev nD} : barCell a = barCell b ↔ a = b :=
  ⟨fun h => congrArg (fun g : GSem nD τ sig => g.1.1) h, fun h => h ▸ rfl⟩
theorem dcell_iff {k k' : Fin 4} {a b a' b' : Dev nD} : dcell k a b = dcell k' a' b' ↔ k = k' ∧ a = a' ∧ b = b' := by
  constructor
  · intro h
    have h1 := kcell_inj (a₁ := (b, some (k, a))) (a₂ := (b', some (k', a'))) h
    simp only [Prod.mk.injEq, Option.some.injEq] at h1
    exact ⟨h1.2.1, h1.2.2, h1.1⟩
  · rintro ⟨rfl, rfl, rfl⟩; rfl
theorem bar_ne {a b c : Dev nD} {k : Fin 4} : barCell a ≠ dcell k b c := fun h =>
  absurd (kcell_inj (a₁ := (a, none)) (a₂ := (c, some (k, b))) h) (by simp)

theorem owed_bar (d c : Dev nD) : O₀ d (barCell c) () = if d = c then 0 else 1 := by
  unfold O₀ O₁ O₂
  simp only [Pi.add_apply, Finsupp.add_apply, pend_apply]
  have h1 : ∀ p, oRecv d p (barCell c) () = 0 := fun p => by unfold oRecv; rw [tallyAt_ne_cell bar_ne]; rfl
  have h2 : ∀ p, oArecv d p (barCell c) () = 0 := fun p => by unfold oArecv; rw [tallyAt_ne_cell bar_ne]; rfl
  have h0 : ∀ p, oBar p (barCell c) () = if p = c then 1 else 0 := fun p => by
    unfold oBar; rw [tallyAt_apply]
    by_cases hp : p = c
    · subst hp; simp
    · rw [if_neg hp, if_neg fun h => hp (bar_iff.mp (h.1)).symm]
  simp only [h0, h1, h2, Finset.sum_const_zero, Nat.add_zero, Finset.sum_ite_eq', Finset.mem_erase, Finset.mem_univ, _root_.and_true]
  by_cases h : d = c
  · subst h; simp
  · rw [if_pos (Ne.symm h), if_neg h]
theorem owed_recv (d c : Dev nD) {j : Dev nD} (hj : j ≠ c) : O₀ d (dcell 1 j c) () = if d = j then Nx else 0 := by
  unfold O₀ O₁ O₂
  simp only [Pi.add_apply, Finsupp.add_apply, pend_apply]
  have h0 : ∀ p, oBar p (dcell 1 j c) () = 0 := fun p => by unfold oBar; rw [tallyAt_ne_cell bar_ne.symm]; rfl
  have h2 : ∀ p, oArecv d p (dcell 1 j c) () = 0 := fun p => by
    unfold oArecv; rw [tallyAt_ne_cell (fun h => absurd (dcell_iff.mp h).1 (by decide))]; rfl
  have h1 : ∀ p, oRecv d p (dcell 1 j c) () = if p = c then (if d = j then Nx else 0) else 0 := fun p => by
    unfold oRecv; rw [tallyAt_apply]
    by_cases hp : p = c
    · subst hp
      by_cases hd : d = j
      · subst hd; simp
      · rw [if_pos rfl, if_neg hd, if_neg fun h => hd (dcell_iff.mp h.1).2.1.symm]
    · rw [if_neg hp, if_neg fun h => hp (dcell_iff.mp h.1).2.2.symm]
  simp only [h0, h1, h2, Finset.sum_const_zero, Nat.add_zero, Nat.zero_add, Finset.sum_ite_eq', Finset.mem_erase, Finset.mem_univ, _root_.and_true]
  by_cases h : d = j
  · subst h; rw [if_pos hj.symm]
  · simp [h]
theorem owed_arecv (d c : Dev nD) {j : Dev nD} (hj : j ≠ c) : O₀ d (dcell 3 j c) () = if d = j then Na else 0 := by
  unfold O₀ O₁ O₂
  simp only [Pi.add_apply, Finsupp.add_apply, pend_apply]
  have h0 : ∀ p, oBar p (dcell 3 j c) () = 0 := fun p => by unfold oBar; rw [tallyAt_ne_cell bar_ne.symm]; rfl
  have h1 : ∀ p, oRecv d p (dcell 3 j c) () = 0 := fun p => by
    unfold oRecv; rw [tallyAt_ne_cell (fun h => absurd (dcell_iff.mp h).1 (by decide))]; rfl
  have h2 : ∀ p, oArecv d p (dcell 3 j c) () = if p = c then (if d = j then Na else 0) else 0 := fun p => by
    unfold oArecv; rw [tallyAt_apply]
    by_cases hp : p = c
    · subst hp
      by_cases hd : d = j
      · subst hd; simp
      · rw [if_pos rfl, if_neg hd, if_neg fun h => hd (dcell_iff.mp h.1).2.1.symm]
    · rw [if_neg hp, if_neg fun h => hp (dcell_iff.mp h.1).2.2.symm]
  simp only [h0, h1, h2, Finset.sum_const_zero, Nat.add_zero, Nat.zero_add, Finset.sum_ite_eq', Finset.mem_erase, Finset.mem_univ, _root_.and_true]
  by_cases h : d = j
  · subst h; rw [if_pos hj.symm]
  · simp [h]

theorem launch_of (g : GSem nD τ sig) {n : ℕ} (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem launch_bar (c : Dev nD) : tallyOn (barCell c) (launchCredit (Pipeline.owing O₀) 0 (barCell c)) = (tallyAt (barCell c) () 15 : CellTallies nD τ sig Unit) :=
  launch_of _ (by rw [Finset.sum_congr rfl fun d _ => owed_bar d c]; revert c; decide +kernel)
theorem launch_recv (c : Dev nD) {j : Dev nD} (hj : j ≠ c) :
    tallyOn (dcell 1 j c) (launchCredit (Pipeline.owing O₀) 0 (dcell 1 j c)) = (tallyAt (dcell 1 j c) () Nx : CellTallies nD τ sig Unit) :=
  launch_of _ (by rw [Finset.sum_congr rfl fun d _ => owed_recv d c hj, Finset.sum_ite_eq' Finset.univ j fun _ => Nx, if_pos (Finset.mem_univ _)])
theorem launch_arecv (c : Dev nD) {j : Dev nD} (hj : j ≠ c) :
    tallyOn (dcell 3 j c) (launchCredit (Pipeline.owing O₀) 0 (dcell 3 j c)) = (tallyAt (dcell 3 j c) () Na : CellTallies nD τ sig Unit) :=
  launch_of _ (by rw [Finset.sum_congr rfl fun d _ => owed_arecv d c hj, Finset.sum_ite_eq' Finset.univ j fun _ => Na, if_pos (Finset.mem_univ _)])

def creds (c : Dev nD) : sProp 𝕄 :=
  iprop(cred (tallyAt (barCell c) () 15) ∗ each (fun t => cred (tallyAt (dcell 1 (src c t) c) () Nx)) ∗ each (fun t => cred (tallyAt (dcell 3 (nbr c t) c) () Na)))

omit [FloatOps F] [Named F] in
theorem creds_intro (c : Dev nD) : (Pipeline.launchCred O₀ c : sProp 𝕄) ⊢ creds c := by
  have h (Φ : SemLoc sig → sProp 𝕄) : bigSep Finset.univ Φ ⊢ bigSep Finset.univ fun k : KI => Φ (csem k) := by
    refine (bigSep_subset (t := Finset.univ.map ⟨csem, csem_inj⟩) (Finset.subset_univ _)).trans ?_
    rw [bigSep_map]; exact BI.Entails.refl _
  unfold Pipeline.launchCred creds
  refine (h _).trans ?_
  rw [cells_split]
  rw [show csem none = SemLoc.reg barS from rfl, launch_bar]
  iintro ⟨H, -, H1, -, H3⟩
  isplitl [H]; · iexact H
  isplitl [H1]
  · have e : bigSep Finset.univ (fun j : Dev nD => (cred (tallyOn ((c.tc : Thread nD τ), csem (some (1, j))) (launchCredit (Pipeline.owing O₀) 0 ((c.tc : Thread nD τ), csem (some (1, j))))) : sProp 𝕄))
        ⊢ each fun t => cred (tallyAt (dcell 1 (src c t) c) () Nx) := by
      rw [bigSep_src c]
      refine sep_elim_right.trans (bigSep_mono fun t ht => ?_)
      rw [← launch_recv c (src_ne' c (Finset.mem_range.mp ht))]; exact BI.Entails.refl _
    iapply e; iexact H1
  · have e : bigSep Finset.univ (fun j : Dev nD => (cred (tallyOn ((c.tc : Thread nD τ), csem (some (3, j))) (launchCredit (Pipeline.owing O₀) 0 ((c.tc : Thread nD τ), csem (some (3, j))))) : sProp 𝕄))
        ⊢ each fun t => cred (tallyAt (dcell 3 (nbr c t) c) () Na) := by
      rw [bigSep_nbr c]
      refine sep_elim_right.trans (bigSep_mono fun t ht => ?_)
      rw [← launch_arecv c (nbr_ne' c (Finset.mem_range.mp ht))]; exact BI.Entails.refl _
    iapply e; iexact H3

/-! ## The pipeline's data -/

/-- The launched state: any memory, every counter zero, any generator. -/
def s₀ : MemSt nD τ sig (Elt F) := ⟨m, fun _ => 0, ρ⟩

def start (c : Dev nD) : sProp 𝕄 := iprop(G' m c ∗ creds c ∗ levAts L lv)
def scr (c : Dev nD) : sProp 𝕄 :=
  iprop((∃ f : cc0_scratch0.ty.Contents (Elt F), ((c : Thread nD τ).loc cc0_scratch0) ↦{fullShare} f)
    ∗ (∃ f : cc0_scratch1.ty.Contents (Elt F), ((c : Thread nD τ).loc cc0_scratch1) ↦{fullShare} f)
    ∗ (∃ f : cc0_scratch2.ty.Contents (Elt F), ((c : Thread nD τ).loc cc0_scratch2) ↦{fullShare} f))
def Φ₀ (c : Dev nD) : sProp 𝕄 := iprop(start m c ∗ scr c)
def Φ₁ (c : Dev nD) : sProp 𝕄 := iprop(scr c ∗ bigSep Finset.univ fun k : KI => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m c
    | ⟨1, _⟩ => wA m c
    | ⟨2, _⟩ => outV (xA m) (wA m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem read_arg0 (f : main_arg0.ty.Contents (Elt F)) : (win0_0.blk t0_0).view.read (Elt F) f = f :=
  Memref.read_access_unit_zero (Elt F) main_arg0
    (show (fun a => (win0_0.index t0_0) a * main_arg0.ty.shape.size a) = fun _ => 0 from funext fun a => by fin_cases a <;> decide)
    (fun a => by fin_cases a <;> decide) f
theorem read_arg1 (f : main_arg1.ty.Contents (Elt F)) : (win0_1.blk t0_0).view.read (Elt F) f = f :=
  Memref.read_access_unit_zero (Elt F) main_arg1
    (show (fun a => (win0_1.index t0_0) a * main_arg1.ty.shape.size a) = fun _ => 0 from funext fun a => by fin_cases a <;> decide)
    (fun a => by fin_cases a <;> decide) f
theorem read_res (f : main_v1.ty.Contents (Elt F)) : (win0_2.blk t0_0).view.read (Elt F) f = f :=
  Memref.read_access_unit_zero (Elt F) main_v1
    (show (fun a => (win0_2.index t0_0) a * main_v1.ty.shape.size a) = fun _ => 0 from funext fun a => by fin_cases a <;> decide)
    (fun a => by fin_cases a <;> decide) f

omit [FloatOps F] [Named F] in
theorem bigSep_W (Φ : Fin cfg0.W → sProp 𝕄) : bigSep Finset.univ Φ = iprop(Φ (0 : Fin 3) ∗ Φ (1 : Fin 3) ∗ Φ (2 : Fin 3)) := bigSep_W0 Φ

theorem before_0 (c : Dev nD) (d) : (dats m ρ 0 c).before (0 : Fin 3) t0_0 d = xA m c := by
  unfold Dat.before; rw [if_pos (fetch0_0 t0_0)]; exact read_arg0 (xA m c)
theorem before_1 (c : Dev nD) (d) : (dats m ρ 0 c).before (1 : Fin 3) t0_0 d = wA m c := by
  unfold Dat.before; rw [if_pos (fetch0_1 t0_0)]; exact read_arg1 (wA m c)

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] [Named F] in
theorem stg_whole (c : Dev nD) (b : Ref sig .tc) (X : b.ty.Contents (Elt F)) :
    (stg c b X : sProp 𝕄) ⊢ (((c : Thread nD τ).loc b) ↦{fullShare} X) := by
  unfold stg
  iintro ⟨%f, %hf, H⟩
  subst hf; iexact H
omit [FloatOps F] [Named F] in
theorem whole_stg (c : Dev nD) (b : Ref sig .tc) (X : b.ty.Contents (Elt F)) :
    (((c : Thread nD τ).loc b) ↦{fullShare} X : sProp 𝕄) ⊢ stg c b X := by
  unfold stg
  iintro H
  iexists X; isplitr; · (ipureintro; rfl)
  iexact H

/-- What a device brings to its body beside the buffers, in the order the body uses it. -/
def brought (c : Dev nD) : sProp 𝕄 :=
  iprop((cred (tallyAt (barCell c) () 15) ∗ atPos ER (barCell c) 0 ∅ 0
    ∗ each (fun t => dutyTok ER (barCell (nbr c t)) 0 c) ∗ each (fun t => dutyTok ER (dcell 0 (nbr c t) c) 0 (nbr c t))
    ∗ each (fun t => dutyTok ER (dcell 1 c (nbr c t)) 0 c)) ∗ late c ∗ ownAt c)

omit [FloatOps F] [Named F] in
theorem brings (c : Dev nD) : iprop((linear c : sProp 𝕄) ∗ creds c) ⊢ brought c := by
  have e3 : each (todo3 (F := F) c) = iprop(each (fun t => atPos ER (dcell 1 (src c t) c) 0 ∅ 0) ∗ each fun t => cred (tallyAt (dcell 1 (src c t) c) () Nx)) := by
    unfold todo3; rw [each, bigSep_sep']
  have e6 : each (todo6 (F := F) c) = iprop(each (fun t => atPos ER (dcell 3 (nbr c t) c) 0 ∅ 0) ∗ each fun t => cred (tallyAt (dcell 3 (nbr c t) c) () Na)) := by
    unfold todo6; rw [each, bigSep_sep']
  unfold linear creds brought late ownAt payToks
  rw [cells_split, e3, e6]
  iintro ⟨⟨⟨HB, H0, H1, H2, H3⟩, TB, T0, T1, T2, T3⟩, CB, C1, C3⟩
  ihave H0 := (Entails.of_eq (bigSep_nbr c fun j => (atPos ER (dcell 0 j c) 0 ∅ 0 : sProp 𝕄))) $$ H0
  ihave H1 := (Entails.of_eq (bigSep_src c fun j => (atPos ER (dcell 1 j c) 0 ∅ 0 : sProp 𝕄))) $$ H1
  ihave H2 := (Entails.of_eq (bigSep_nbr c fun j => (atPos ER (dcell 2 j c) 0 ∅ 0 : sProp 𝕄))) $$ H2
  ihave H3 := (Entails.of_eq (bigSep_nbr c fun j => (atPos ER (dcell 3 j c) 0 ∅ 0 : sProp 𝕄))) $$ H3
  icases H0 with ⟨P0, H0⟩
  icases H1 with ⟨P1, H1⟩
  icases H2 with ⟨P2, H2⟩
  icases H3 with ⟨P3, H3⟩
  ihave TB := (others c fun p => (dutyTok ER (barCell p) 0 c : sProp 𝕄)) $$ TB
  ihave T0 := (others c fun p => (dutyTok ER (dcell 0 p c) 0 p : sProp 𝕄)) $$ T0
  ihave T1 := (others c fun p => (dutyTok ER (dcell 1 c p) 0 c : sProp 𝕄)) $$ T1
  ihave T2 := (others c fun p => (dutyTok ER (dcell 2 p c) 0 p : sProp 𝕄)) $$ T2
  ihave T3 := (others c fun p => (dutyTok ER (dcell 3 c p) 0 c : sProp 𝕄)) $$ T3
  isplitl [CB HB TB T0 T1]
  · isplitl [CB]; · iexact CB
    isplitl [HB]; · iexact HB
    isplitl [TB]; · iexact TB
    isplitl [T0]; · iexact T0
    iexact T1
  isplitr [P0 P1 P2 P3]
  · isplitl [H1 C1]
    · isplitl [H1]; · iexact H1
      iexact C1
    isplitl [H0]; · iexact H0
    isplitl [T2]; · iexact T2
    isplitl [T3]; · iexact T3
    isplitl [H3 C3]
    · isplitl [H3]; · iexact H3
      iexact C3
    iexact H2
  · isplitl [P0]; · iexact P0
    isplitl [P1]; · iexact P1
    isplitl [P2]; · iexact P2
    iexact P3

omit [FloatOps F] [Named F] in
/-- Every cell of a device at zero, from the families the body leaves. -/
theorem closed (c : Dev nD) :
    iprop((semVal (barCell c) 0 : sProp 𝕄) ∗ each (fun t => semVal (dcell 0 (nbr c t) c) 0) ∗ each (fun t => semVal (dcell 1 (src c t) c) 0)
        ∗ each (fun t => semVal (dcell 2 (nbr c t) c) 0) ∗ each (fun t => semVal (dcell 3 (nbr c t) c) 0) ∗ ownZero c)
      ⊢ bigSep Finset.univ fun k : KI => semVal (kcell (c, k)) 0 := by
  unfold ownZero
  rw [cells_split]
  iintro ⟨HB, H0, H1, H2, H3, P0, P1, P2, P3⟩
  isplitl [HB]; · iexact HB
  isplitl [H0 P0]
  · iapply (Entails.of_eq (bigSep_nbr c fun j => (semVal (dcell 0 j c) 0 : sProp 𝕄)).symm)
    isplitl [P0] <;> iassumption
  isplitl [H1 P1]
  · iapply (Entails.of_eq (bigSep_src c fun j => (semVal (dcell 1 j c) 0 : sProp 𝕄)).symm)
    isplitl [P1] <;> iassumption
  isplitl [H2 P2]
  · iapply (Entails.of_eq (bigSep_nbr c fun j => (semVal (dcell 2 j c) 0 : sProp 𝕄)).symm)
    isplitl [P2] <;> iassumption
  · iapply (Entails.of_eq (bigSep_nbr c fun j => (semVal (dcell 3 j c) 0 : sProp 𝕄)).symm)
    isplitl [P3] <;> iassumption

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ c ∗ (dats m ρ 0 c).owesAt () t0_0.succ ∗ stg c cc0_stg0_0 (xA m c) ∗ stg c cc0_stg1_0 (wA m c) ∗ stg c cc0_stg2_0 (outV (xA m) (wA m) c))

set_option maxRecDepth 4000 in
theorem run_body (c : Dev nD) : bodyPre m ρ c ⊢ wp frame (wpE (defs₀ (F := F)) 𝒱₀ (c : Thread nD τ) none) Set.univ
        (cc0_body aM (Memref.isWhole_whole _) wM (Memref.isWhole_whole _) oM (Memref.isWhole_whole _) xM (Memref.isWhole_whole _) cM (Memref.isWhole_whole _)
          mM (Memref.isWhole_whole _) cc0_scratch3 cc0_scratch4 cc0_scratch5 cc0_scratch6) (fun _ => bodyPost m ρ c) := by
  unfold bodyPre Φ₀ start G'
  iintro ⟨⟨⟨⟨%K, #Hrec, Hlin⟩, Hcr, #Hlev⟩, Hscr⟩, Ho, ⟨%d0, Hx⟩, ⟨%d1, Hw⟩, ⟨%d2, Hout⟩⟩
  rw [before_0, before_1]
  ihave Hx := (stg_whole (F := F) c cc0_stg0_0 (xA m c)) $$ Hx
  ihave Hw := (stg_whole (F := F) c cc0_stg1_0 (wA m c)) $$ Hw
  ihave Hout := (stg_whole (F := F) c cc0_stg2_0 _) $$ Hout
  ihave Hb := (brings (F := F) c) $$ [Hlin Hcr]
  · isplitl [Hlin] <;> iassumption
  unfold brought
  icases Hb with ⟨⟨CB, HB, TB, T0, T1⟩, Hlate, Hat⟩
  unfold scr
  icases Hscr with ⟨S0, S1, S2⟩
  iapply (sound_body (xA m) (wA m) K c)
  isplitl []
  · unfold env; isplitr <;> iassumption
  isplitl [Ho CB HB TB T0 T1 S0 S1 S2 Hx Hw]
  · unfold pre1
    isplitl []
    · unfold env; isplitr <;> iassumption
    isplitl [Ho]
    · unfold Dat.owesAt Pipeline.owesWithin owesE
      icases Ho with ⟨%W, %hW, Ho⟩
      iexists W; iexact Ho
    isplitl [CB]; · iexact CB
    isplitl [HB]; · iexact HB
    isplitl [TB]; · iexact TB
    isplitl [T0]; · iexact T0
    isplitl [T1]; · iexact T1
    isplitl [S0]; · iexact S0
    isplitl [S1]; · iexact S1
    isplitl [S2]; · iexact S2
    isplitl [Hx] <;> iassumption
  isplitl [Hlate]; · iexact Hlate
  isplitl [Hat]; · iexact Hat
  isplitl [Hout]
  · iexists _; iexact Hout
  unfold post2
  iintro ⟨⟨Ho, HB, Hx, Hw, S0, S1, S2, H0, H1, H2, H3⟩, HZ, Hout⟩
  unfold bodyPost Φ₁ scr
  isplitl [S0 S1 S2 HB H0 H1 H2 H3 HZ]
  · isplitl [S0 S1 S2]
    · isplitl [S0]; · iexists _; iexact S0
      isplitl [S1]; · iexists _; iexact S1
      iexists _; iexact S2
    iapply (closed (F := F) c)
    isplitl [HB]; · iexact HB
    isplitl [H0]; · iexact H0
    isplitl [H1]; · iexact H1
    isplitl [H2]; · iexact H2
    isplitl [H3] <;> iassumption
  isplitl [Ho]
  · unfold Dat.owesAt Pipeline.owesWithin owesE
    icases Ho with ⟨%W, Ho⟩
    iexists W
    isplitr
    · ipureintro; exact fun _ _ => Or.inl trivial
    iexact Ho
  isplitl [Hx]; · iapply (whole_stg (F := F) c cc0_stg0_0 (xA m c)); iexact Hx
  isplitl [Hw]; · iapply (whole_stg (F := F) c cc0_stg1_0 (wA m c)); iexact Hw
  iapply (whole_stg (F := F) c cc0_stg2_0 (outV (xA m) (wA m) c)); iexact Hout

set_option maxRecDepth 20000 in
/-- The pipeline's body obligation on a device. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact run_body m ρ c

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scr
  rw [← sems0_eq]
  iintro ⟨Hr, HB, HS⟩
  isplitl [HB]; · iexact HB
  isplitl [HS] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_below c _ _ (by
      rcases t with ⟨_ | _, ht⟩
      · exact below₀ c _ (by fin_cases w <;> fin_cases s <;> decide +kernel)
      · exact below_0 _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the program from any memory with zero counters ends, with the three arrays of each
    device at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_net m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_0 (c : Dev nD) : finalA m ρ c (0 : Fin 3) = xA m c := (dats (F := F) m ρ 0 c).arrAt_in (0 : Fin 3) rfl _
theorem final_1 (c : Dev nD) : finalA m ρ c (1 : Fin 3) = wA m c := (dats (F := F) m ρ 0 c).arrAt_in (1 : Fin 3) rfl _
theorem final_2 (c : Dev nD) : finalA m ρ c (2 : Fin 3) = outV (xA m) (wA m) c := by
  refine (read_res _).symm.trans ?_
  unfold finalA
  rw [show cfg0.N = t0_0.val + 1 from rfl, (dats m ρ 0 c).arrAt_succ (2 : Fin 3) t0_0, flush0_2, if_pos rfl]
  exact (View.read_write_univ _ _).trans rfl

/-- Every weakly fair execution of the program from any memory with zero counters ends: each device's result array is
    `outV` of the devices' arguments, the arguments are unchanged, every counter is zero. -/
theorem run_all : θ_run defs (onTc (τ := τ) (main (F := F))) (s₀ m ρ) (fun r =>
    (∀ c : Dev nD, r.2.mem ((c : Thread nD τ).loc main_v1) = outV (xA m) (wA m) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  θ_run_mono (run_main m ρ) fun r h =>
    ⟨fun c => ⟨(h.1 c (2 : Fin 3)).trans (final_2 m ρ c), (h.1 c (0 : Fin 3)).trans (final_0 m ρ c), (h.1 c (1 : Fin 3)).trans (final_1 m ρ c)⟩, h.2⟩

end Cert.KernelIdeal.Net

end
-- ==== Proof.Snap.lean ====
/-
The quantiser's scalar mathematics over the extended reals: the constants as the numbers they are, the distance of the
representable numbers as a ladder of comparisons and as the greatest entry of a table, and the two forms of the rounding.
-/
module

public import Idealize.ShloMosaic.Lib.Pointwise
public import Idealize.ShloMosaic.Lib.IdealHost

@[expose] public section

namespace Cert.Snap

open Idealize.ShloMosaic

/-- Two to the power `k - 9`: a distance of the representable numbers. -/
noncomputable def gap (k : ℕ) : ℝ := 2 ^ k / 512
/-- Two to the power `k - 6`: the least number at which `gap k` holds. -/
noncomputable def thr (k : ℕ) : ℝ := 2 ^ k / 64

theorem gap_pos (k : ℕ) : 0 < gap k := by unfold gap; positivity
theorem gap_le_succ (k : ℕ) : gap k ≤ gap (k + 1) := by
  unfold gap; rw [pow_succ]; have : (0 : ℝ) < 2 ^ k := by positivity
  linarith
theorem gap_zero_le (k : ℕ) : gap 0 ≤ gap k := by
  induction k with
  | zero => exact le_refl _
  | succ k ih => exact ih.trans (gap_le_succ k)
theorem thr_zero_le (k : ℕ) : thr 0 ≤ thr k := by
  have := gap_zero_le k; unfold gap at this; unfold thr; linarith

/-- The ladder of comparisons: the distance at magnitude `a`, of the first `n + 1` binades. -/
noncomputable def ladder (a : EReal) : ℕ → EReal
  | 0 => (gap 0 : EReal)
  | n + 1 => if (thr (n + 1) : EReal) ≤ a then (gap (n + 1) : EReal) else ladder a n

theorem ladder_le (a : EReal) (n : ℕ) : ladder a n ≤ (gap n : EReal) := by
  induction n with
  | zero => exact le_refl _
  | succ n ih =>
    unfold ladder; split
    · exact le_refl _
    · exact ih.trans (EReal.coe_le_coe_iff.mpr (gap_le_succ n))

theorem le_ladder (a : EReal) (n : ℕ) : (gap 0 : EReal) ≤ ladder a n := by
  induction n with
  | zero => exact le_refl _
  | succ n ih =>
    unfold ladder; split
    · exact EReal.coe_le_coe_iff.mpr (gap_zero_le _)
    · exact ih

theorem ladder_of_lt {a : EReal} (h : a < (thr 0 : EReal)) (n : ℕ) : ladder a n = (gap 0 : EReal) := by
  induction n with
  | zero => rfl
  | succ n ih =>
    unfold ladder
    rw [if_neg (not_le.mpr (h.trans_le (EReal.coe_le_coe_iff.mpr (thr_zero_le _)))), ih]

theorem fold_last {n : ℕ} (b : EReal) (f : Fin (n + 1) → EReal) :
    (Finset.univ : Finset (Fin (n + 1))).fold max b f = max (f (Fin.last n)) ((Finset.univ : Finset (Fin n)).fold max b fun k => f k.castSucc) := by
  rw [Fin.univ_castSuccEmb, Finset.fold_cons, Finset.fold_map]; rfl

/-- The greatest entry of the table of distances is the ladder's. -/
theorem fold_table (a : EReal) (n : ℕ) :
    (Finset.univ : Finset (Fin (n + 1))).fold max ⊥ (fun k => if (thr k.val : EReal) ≤ a then (gap k.val : EReal) else (gap 0 : EReal)) = ladder a n := by
  induction n with
  | zero => rw [fold_last]; simp [ladder]
  | succ n ih =>
    rw [fold_last]
    simp only [Fin.val_last, Fin.val_castSucc]
    rw [ih, ladder]
    split
    · exact max_eq_left ((ladder_le a n).trans (EReal.coe_le_coe_iff.mpr (gap_le_succ n)))
    · exact max_eq_right (le_ladder a n)

/-! ## Division and sign -/

theorem div_coe_right (x : EReal) {y : ℝ} (hy : y ≠ 0) : Ideal.div x (y : EReal) = x * ((y⁻¹ : ℝ) : EReal) := by
  unfold Ideal.div
  rw [if_neg (by exact_mod_cast hy), EReal.coe_inv]

theorem div_coe (x : ℝ) {y : ℝ} (hy : y ≠ 0) : Ideal.div (x : EReal) (y : EReal) = ((x / y : ℝ) : EReal) := by
  rw [div_coe_right _ hy, ← EReal.coe_mul, div_eq_mul_inv]

theorem sign_bot : Ideal.sign ⊥ = -1 := rfl
theorem sign_top : Ideal.sign ⊤ = 1 := rfl
theorem sign_coe (r : ℝ) : Ideal.sign (r : EReal) = ((SignType.sign r : ℝ) : EReal) := rfl

theorem sign_eq (v : EReal) : (if 0 < max v (-v) then (if v < 0 then (-1 : EReal) else 1) else v) = Ideal.sign v := by
  induction v with
  | bot => simp [sign_bot]
  | top => simp [sign_top]
  | coe r =>
    rw [sign_coe]
    rcases lt_trichotomy r 0 with h | h | h
    · have h1 : ((r : ℝ) : EReal) < 0 := by exact_mod_cast h
      have h2 : (0 : EReal) < -(r : EReal) := by rw [← EReal.coe_neg]; exact_mod_cast neg_pos.mpr h
      rw [if_pos (lt_max_of_lt_right h2), if_pos h1]
      simp [sign_neg h]
    · subst h; simp
    · have h1 : (0 : EReal) < ((r : ℝ) : EReal) := by exact_mod_cast h
      rw [if_pos (lt_max_of_lt_left h1), if_neg (not_lt.mpr h1.le)]
      simp [sign_pos h]

/-- Rounding on the finest grid by a product is rounding by the ladder's distance below the normal numbers. -/
theorem snap_eq (a : EReal) (n : ℕ) (f : EReal → EReal) :
    (if (thr 0 : EReal) ≤ a then f (Ideal.div a (ladder a n)) * ladder a n else f (a * ((512 : ℝ) : EReal)) * (gap 0 : EReal))
      = f (Ideal.div a (ladder a n)) * ladder a n := by
  split
  · rfl
  · next h =>
    rw [ladder_of_lt (not_le.mp h), div_coe_right _ (gap_pos 0).ne']
    have : (gap 0)⁻¹ = 512 := by unfold gap; norm_num
    rw [this]

/-- The quantised value at `v`, scaled back by `s`. -/
noncomputable def quant (v s : EReal) : EReal :=
  Ideal.sign v * min (Ideal.liftRound Ideal.roundHalfEven (Ideal.div (max v (-v)) (ladder (max v (-v)) 14)) * ladder (max v (-v)) 14) ((448 : ℝ) : EReal) * s

/-! ## The constants -/

theorem bits_bot : Ideal.ofBits .f32 0xFF800000#32 = ⊥ := by simp [Ideal.ofBits, Ideal.ieee]
theorem bits_neg_one : Ideal.ofBits .f32 0xBF800000#32 = -1 := by
  simp [Ideal.ofBits, Ideal.ieee, -EReal.coe_mul]; norm_num
theorem bits_448 : Ideal.ofBits .f32 0x43E00000#32 = ((448 : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num
theorem bits_m9 : Ideal.ofBits .f32 0x3B000000#32 = ((1 / 512 : ℝ) : EReal) := by
  simp [Ideal.ofBits, Ideal.ieee, -EReal.coe_mul]; norm_num
theorem bits_m8 : Ideal.ofBits .f32 0x3B800000#32 = ((1 / 256 : ℝ) : EReal) := by
  simp [Ideal.ofBits, Ideal.ieee, -EReal.coe_mul]; norm_num
theorem bits_m7 : Ideal.ofBits .f32 0x3C000000#32 = ((1 / 128 : ℝ) : EReal) := by
  simp [Ideal.ofBits, Ideal.ieee, -EReal.coe_mul]; norm_num
theorem bits_m6 : Ideal.ofBits .f32 0x3C800000#32 = ((1 / 64 : ℝ) : EReal) := by
  simp [Ideal.ofBits, Ideal.ieee, -EReal.coe_mul]; norm_num
theorem bits_m5 : Ideal.ofBits .f32 0x3D000000#32 = ((1 / 32 : ℝ) : EReal) := by
  simp [Ideal.ofBits, Ideal.ieee, -EReal.coe_mul]; norm_num
theorem bits_m4 : Ideal.ofBits .f32 0x3D800000#32 = ((1 / 16 : ℝ) : EReal) := by
  simp [Ideal.ofBits, Ideal.ieee, -EReal.coe_mul]; norm_num
theorem bits_m3 : Ideal.ofBits .f32 0x3E000000#32 = ((1 / 8 : ℝ) : EReal) := by
  simp [Ideal.ofBits, Ideal.ieee, -EReal.coe_mul]; norm_num
theorem bits_m2 : Ideal.ofBits .f32 0x3E800000#32 = ((1 / 4 : ℝ) : EReal) := by
  simp [Ideal.ofBits, Ideal.ieee, -EReal.coe_mul]; norm_num
theorem bits_m1 : Ideal.ofBits .f32 0x3F000000#32 = ((1 / 2 : ℝ) : EReal) := by
  simp [Ideal.ofBits, Ideal.ieee, -EReal.coe_mul]; norm_num
theorem bits_0 : Ideal.ofBits .f32 0x3F800000#32 = ((1 : ℝ) : EReal) := by
  simp [Ideal.ofBits, Ideal.ieee, -EReal.coe_mul]; norm_num
theorem bits_1 : Ideal.ofBits .f32 0x40000000#32 = ((2 : ℝ) : EReal) := by
  simp [Ideal.ofBits, Ideal.ieee, -EReal.coe_mul]; norm_num
theorem bits_2 : Ideal.ofBits .f32 0x40800000#32 = ((4 : ℝ) : EReal) := by
  simp [Ideal.ofBits, Ideal.ieee, -EReal.coe_mul]; norm_num
theorem bits_3 : Ideal.ofBits .f32 0x41000000#32 = ((8 : ℝ) : EReal) := by
  simp [Ideal.ofBits, Ideal.ieee, -EReal.coe_mul]; norm_num
theorem bits_4 : Ideal.ofBits .f32 0x41800000#32 = ((16 : ℝ) : EReal) := by
  simp [Ideal.ofBits, Ideal.ieee, -EReal.coe_mul]; norm_num
theorem bits_5 : Ideal.ofBits .f32 0x42000000#32 = ((32 : ℝ) : EReal) := by
  simp [Ideal.ofBits, Ideal.ieee, -EReal.coe_mul]; norm_num
theorem bits_6 : Ideal.ofBits .f32 0x42800000#32 = ((64 : ℝ) : EReal) := by
  simp [Ideal.ofBits, Ideal.ieee, -EReal.coe_mul]; norm_num
theorem bits_7 : Ideal.ofBits .f32 0x43000000#32 = ((128 : ℝ) : EReal) := by
  simp [Ideal.ofBits, Ideal.ieee, -EReal.coe_mul]; norm_num
theorem bits_8 : Ideal.ofBits .f32 0x43800000#32 = ((256 : ℝ) : EReal) := by
  simp [Ideal.ofBits, Ideal.ieee, -EReal.coe_mul]; norm_num

theorem ladder_eq (a : EReal) : ladder a 14 =
    if ((256 : ℝ) : EReal) ≤ a then ((32 : ℝ) : EReal)
    else if ((128 : ℝ) : EReal) ≤ a then ((16 : ℝ) : EReal)
    else if ((64 : ℝ) : EReal) ≤ a then ((8 : ℝ) : EReal)
    else if ((32 : ℝ) : EReal) ≤ a then ((4 : ℝ) : EReal)
    else if ((16 : ℝ) : EReal) ≤ a then ((2 : ℝ) : EReal)
    else if ((8 : ℝ) : EReal) ≤ a then ((1 : ℝ) : EReal)
    else if ((4 : ℝ) : EReal) ≤ a then ((1 / 2 : ℝ) : EReal)
    else if ((2 : ℝ) : EReal) ≤ a then ((1 / 4 : ℝ) : EReal)
    else if ((1 : ℝ) : EReal) ≤ a then ((1 / 8 : ℝ) : EReal)
    else if ((1 / 2 : ℝ) : EReal) ≤ a then ((1 / 16 : ℝ) : EReal)
    else if ((1 / 4 : ℝ) : EReal) ≤ a then ((1 / 32 : ℝ) : EReal)
    else if ((1 / 8 : ℝ) : EReal) ≤ a then ((1 / 64 : ℝ) : EReal)
    else if ((1 / 16 : ℝ) : EReal) ≤ a then ((1 / 128 : ℝ) : EReal)
    else if ((1 / 32 : ℝ) : EReal) ≤ a then ((1 / 256 : ℝ) : EReal)
    else ((1 / 512 : ℝ) : EReal) := by
  simp only [ladder, thr, gap]
  norm_num

end Cert.Snap
-- ==== Proof.KerValue.lean ====
/-
The kernel's result, by elements, at the extended reals: each payload read at an index, the quantised value of `Snap` at
every element, and the accumulated block as the sum over the devices.
-/
module

public import proofs.«01_k».proof.Proof.Snap
public import proofs.«01_k».proof.Proof.Sched
public import Idealize.ShloMosaic.Lib.Pointwise.IndexBridge
public import Idealize.ShloMosaic.Lib.Layout

@[expose] public section

set_option maxRecDepth 16384

namespace Cert.KernelIdeal.Net

open Idealize.ShloMosaic
open Cert.KernelIdeal Cert.KernelIdeal.Gen
open Cert.Snap

theorem pay2_at (v : Vec Ideal S4096x256 .f32) (a : Fin 4096) (b : Fin 256) : k0_pay2 v (ix2 a b) = v (ix2 a b) := by
  pointwise [k0_pay2]

theorem pay4_at (x : Vec Ideal S1x256x256 .bf16) (w : Vec Ideal S256x2048 .f32) (a : Fin 256) (b : Fin 2048) :
    k0_pay4 x w (ix2 a b) = ∑ k : Fin 256, x (ix3 0 a k) * w (ix2 k b) := by
  pointwise [k0_pay4]

theorem pay5_at (y : FVec Ideal S256x2048 .f32) (x : Vec Ideal S1x256x256 .bf16) (w : Vec Ideal S256x2048 .f32) (a : Fin 256) (b : Fin 2048) :
    k0_pay5 y x w (ix2 a b) = y (ix2 a b) + ∑ k : Fin 256, x (ix3 0 a k) * w (ix2 k b) := by
  pointwise [k0_pay5]

theorem pay6_at (y : FVec Ideal S256x2048 .f32) (i : S1x128.Idx) :
    k0_pay6 y i = (Finset.univ : Finset (Fin 256 × Fin 2048)).fold max ⊥ fun k => max (y (ix2 k.1 k.2)) (-y (ix2 k.1 k.2)) := by
  pointwise [k0_pay6]
  rw [bits_bot]
  rfl

theorem pay7_at (A : Vec Ideal S16x128 .f32) :
    k0_pay7 A = Ideal.div ((Finset.univ : Finset (Fin 16 × Fin 128)).fold max ⊥ fun k => A (ix2 k.1 k.2)) ((448 : ℝ) : EReal) := by
  pointwise [k0_pay7]
  rw [bits_bot, IdealRules.named_const.ideal_named_scalar κ (b := _) (v := ((1 / 448 : ℝ) : EReal)) (h := rfl), div_coe_right _ (by norm_num), one_div]

theorem pay8_at (y : FVec Ideal S256x2048 .f32) (A : Vec Ideal S16x128 .f32) (a : Fin 256) (b : Fin 2048) :
    k0_pay8 y A (ix2 a b) = Ideal.div (y (ix2 a b)) (k0_pay7 A) := by
  pointwise [k0_pay8]

theorem pay9_at (y : FVec Ideal S256x2048 .f32) (A : Vec Ideal S16x128 .f32) (a : Fin 256) (b : Fin 2048) :
    k0_pay9 y A (ix2 a b) = max (k0_pay8 y A (ix2 a b)) (-k0_pay8 y A (ix2 a b)) := by
  pointwise [k0_pay9]
  rfl

theorem pay11_at (y : FVec Ideal S256x2048 .f32) (A : Vec Ideal S16x128 .f32) (a : Fin 256) (b : Fin 2048) (x z : EReal) :
    Scalar.select (k0_pay11 y A (ix2 a b)) x z = if ((1 / 32 : ℝ) : EReal) ≤ k0_pay9 y A (ix2 a b) then x else z := by
  rw [← bits_m5]
  pointwise [k0_pay11]

/-- The quantised element of the kernel. -/
theorem pay1_at (s : EReal) (v : FVec Ideal S256x2048 .f32) (u : FVec Ideal S256x2048 .f32) (p : IVec S256x2048 1) (a : Fin 256) (b : Fin 2048)
    (hu : u (ix2 a b) = max (v (ix2 a b)) (-v (ix2 a b)))
    (hp : ∀ x z : EReal, Scalar.select (p (ix2 a b)) x z = if ((1 / 32 : ℝ) : EReal) ≤ u (ix2 a b) then x else z) :
    k0_pay1 (F := Ideal) s v u (k0_pay12 u k0_pay10 p) (k0_pay13 u) (ix2 a b) = quant (v (ix2 a b)) s := by
  have hl := ladder_eq (u (ix2 a b))
  rw [EReal.coe_one] at hl
  have hs := snap_eq (u (ix2 a b)) 14 (Ideal.liftRound Ideal.roundHalfEven)
  have h0 : thr 0 = 1 / 64 := by unfold thr; norm_num
  have h1 : gap 0 = 1 / 512 := by unfold gap; norm_num
  rw [h0, h1] at hs
  pointwise [k0_pay1, k0_pay10, k0_pay12, k0_pay13]
  simp only [hp, bits_neg_one, bits_448, bits_512, bits_m9, bits_m8, bits_m7, bits_m6, bits_m5, bits_m4, bits_m3, bits_m2, bits_m1,
    bits_1, bits_2, bits_3, bits_4, bits_5, bits_6, bits_7, bits_8]
  rw [← hl, hs, Ideal.absf_def, sign_eq, hu]
  rfl

end Cert.KernelIdeal.Net
-- ==== Proof.RefValue.lean ====
/-
The reference's result, by elements: the product as a sum over the contraction, the scale as the greatest magnitude over
448, and the quantised value of `Snap` at every element.
-/
module

public import proofs.«01_k».proof.Proof.Snap
public import proofs.«01_k».proof.Proof.Gen.ReferenceIdeal.Run

@[expose] public section

set_option maxRecDepth 16384

namespace Cert.ReferenceIdeal.Value

open Idealize.ShloMosaic
open Cert.ReferenceIdeal Cert.ReferenceIdeal.Gen
open Cert.Snap

/-- The table of the binades' least numbers. -/
noncomputable def grid : FVec Ideal S15 .f32 := fun i => FloatOps.ofBits .f32 (lit0 (S15.rowMajor i))

/-- The whole product. -/
noncomputable def prod (A : FVec Ideal S4096x4096 .f32) (B : FVec Ideal S4096x2048 .f32) : FVec Ideal S4096x2048 .f32 :=
  Host.dotGeneral dot_S4096x4096_S4096x2048_S4096x2048_1_0_0_1_n_n none A B

/-- The scale of a product `Y`. -/
noncomputable def scale (Y : FVec Ideal S4096x2048 .f32) : FVec Ideal S_ .f32 :=
  Host.divf (Host.reduce FloatOps.maximumf (Host.absf Y) (constant S_ .f32 0xFF800000#32) reducesTo_S4096x2048_S_d0_1 h_S_) (constant S_ .f32 0x43E00000#32)

/-- The product over its scale. -/
noncomputable def scaled (Y : FVec Ideal S4096x2048 .f32) (S : FVec Ideal S_ .f32) : FVec Ideal S4096x2048 .f32 :=
  Host.divf Y (broadcastInDim S4096x2048 ![] bcast_S_S4096x2048 S)

/-- The distance of the representable numbers at every element. -/
noncomputable def dist (V : FVec Ideal S4096x2048 .f32) : FVec Ideal S4096x2048 .f32 :=
  Host.reduce FloatOps.maximumf
    (select
      (cmpf .oge
        (broadcastInDim S4096x2048x15 ![0, 1, 2] bcast_S4096x2048x1_S4096x2048x15_0_1_2
          (broadcastInDim S4096x2048x1 ![0, 1] bcast_S4096x2048_S4096x2048x1_0_1 (Host.absf V)))
        (broadcastInDim S4096x2048x15 ![0, 1, 2] bcast_S1x1x15_S4096x2048x15_0_1_2 (broadcastInDim S1x1x15 ![2] bcast_S15_S1x1x15_2 grid)))
      (broadcastInDim S4096x2048x15 ![2] bcast_S15_S4096x2048x15_2
        (Host.divf grid (broadcastInDim S15 ![] bcast_S_S15 (constant S_ .f32 0x41000000#32))))
      (broadcastInDim S4096x2048x15 ![] bcast_S_S4096x2048x15 (constant S_ .f32 0x3B000000#32)))
    (constant S_ .f32 0xFF800000#32) reducesTo_S4096x2048x15_S4096x2048_d2 h_S_

/-- The rounding with distances `D`, cut and scaled back by `S`. -/
noncomputable def rounded (V D : FVec Ideal S4096x2048 .f32) (S : FVec Ideal S_ .f32) : FVec Ideal S4096x2048 .f32 :=
  mulf (mulf (Host.sign V) (minimumf (mulf (Host.roundeven (Host.divf (Host.absf V) D)) D)
    (broadcastInDim S4096x2048 ![] bcast_S_S4096x2048 (constant S_ .f32 0x43E00000#32)))) (broadcastInDim S4096x2048 ![] bcast_S_S4096x2048 S)

theorem res_eq (m : (ℓ : Loc nD τ sig) → Buf (Elt Ideal) ℓ) (c : Dev nD) : res_main_v24 (F := Ideal) m c =
    (let Y := prod (m ((c.tc : Thread nD τ).loc main_arg0)) (m ((c.tc : Thread nD τ).loc main_arg1))
     let V := scaled Y (scale Y)
     rounded V (dist V) (scale Y)) := rfl

theorem prod_at (A : FVec Ideal S4096x4096 .f32) (B : FVec Ideal S4096x2048 .f32) (a : Fin 4096) (b : Fin 2048) :
    prod A B (ix2 a b) = ∑ k : Fin 4096, A (ix2 a k) * B (ix2 k b) := by
  pointwise [prod]

theorem scale_at (Y : FVec Ideal S4096x2048 .f32) : scale Y ix0 =
    Ideal.div ((Finset.univ : Finset (Fin 4096 × Fin 2048)).fold max ⊥ fun k => max (Y (ix2 k.1 k.2)) (-Y (ix2 k.1 k.2))) ((448 : ℝ) : EReal) := by
  pointwise [scale]
  rw [bits_bot, bits_448]
  rfl

theorem grid_at (k : Fin 15) : grid (ix1 k) = ((thr k.val : ℝ) : EReal) := by
  have e : S15.rowMajor (ix1 k) = k := by
    fin_cases k <;> rfl
  unfold grid
  rw [e]
  fin_cases k <;> simp only [lit0, thr] <;> first
    | exact bits_m6.trans (by norm_num)
    | exact bits_m5.trans (by norm_num)
    | exact bits_m4.trans (by norm_num)
    | exact bits_m3.trans (by norm_num)
    | exact bits_m2.trans (by norm_num)
    | exact bits_m1.trans (by norm_num)
    | exact bits_0.trans (by norm_num)
    | exact bits_1.trans (by norm_num)
    | exact bits_2.trans (by norm_num)
    | exact bits_3.trans (by norm_num)
    | exact bits_4.trans (by norm_num)
    | exact bits_5.trans (by norm_num)
    | exact bits_6.trans (by norm_num)
    | exact bits_7.trans (by norm_num)
    | exact bits_8.trans (by norm_num)

theorem dist_at (V : FVec Ideal S4096x2048 .f32) (a : Fin 4096) (b : Fin 2048) :
    dist V (ix2 a b) = ladder (max (V (ix2 a b)) (-V (ix2 a b))) 14 := by
  rw [← fold_table]
  pointwise [dist]
  rw [bits_bot]
  refine Finset.fold_congr fun k _ => ?_
  rw [grid_at, bits_3, bits_m9, div_coe _ (by norm_num)]
  have h1 : thr k.val / 8 = gap k.val := by unfold thr gap; ring
  have h2 : (1 / 512 : ℝ) = gap 0 := by unfold gap; norm_num
  rw [h1, h2]
  rfl

theorem rounded_at (V D : FVec Ideal S4096x2048 .f32) (S : FVec Ideal S_ .f32) (a : Fin 4096) (b : Fin 2048)
    (hD : D (ix2 a b) = ladder (max (V (ix2 a b)) (-V (ix2 a b))) 14) :
    rounded V D S (ix2 a b) = quant (V (ix2 a b)) (S ix0) := by
  pointwise [rounded]
  rw [hD, bits_448]
  rfl

theorem scaled_at (Y : FVec Ideal S4096x2048 .f32) (S : FVec Ideal S_ .f32) (a : Fin 4096) (b : Fin 2048) :
    scaled Y S (ix2 a b) = Ideal.div (Y (ix2 a b)) (S ix0) := by
  pointwise [scaled]

/-- The reference's result at every element. -/
theorem res_at (m : (ℓ : Loc nD τ sig) → Buf (Elt Ideal) ℓ) (c : Dev nD) (a : Fin 4096) (b : Fin 2048) :
    (res_main_v24 (F := Ideal) m c : FVec Ideal S4096x2048 .f32) (ix2 a b) =
      (let Y := prod (m ((c.tc : Thread nD τ).loc main_arg0)) (m ((c.tc : Thread nD τ).loc main_arg1))
       quant (Ideal.div (Y (ix2 a b)) (scale Y ix0)) (scale Y ix0)) := by
  rw [res_eq]
  exact (rounded_at _ _ _ a b (dist_at _ a b)).trans (by rw [scaled_at])

end Cert.ReferenceIdeal.Value
-- ==== Proof.Value.lean ====
/-
The two results compared: the device's block is the block of the whole product, the greatest of the local maxima is the
whole array's, and so the device's result is its rows of the reference's.
-/
module

public import proofs.«01_k».proof.Proof.KerValue
public import proofs.«01_k».proof.Proof.RefValue

@[expose] public section

set_option maxRecDepth 16384

namespace Cert.Value

open Idealize.ShloMosaic
open Cert.KernelIdeal Cert.KernelIdeal.Gen Cert.KernelIdeal.Net
open Cert.Snap

/-- Row `r` of block `c`, of sixteen blocks of 256. -/
def at16 (c : Fin 16) (r : Fin 256) : Fin 4096 := ⟨256 * c.val + r.val, by omega⟩

theorem sum_at16 (f : Fin 4096 → EReal) : ∑ k : Fin 4096, f k = ∑ c : Fin 16, ∑ r : Fin 256, f (at16 c r) := by
  rw [← Fintype.sum_prod_type' (f := fun c r => f (at16 c r))]
  refine (Fintype.sum_equiv (finProdFinEquiv (m := 16) (n := 256)) _ _ fun p => ?_).symm
  refine congrArg f (Fin.ext ?_)
  simp only [at16, finProdFinEquiv_apply_val]
  omega

theorem at16_surj (k : Fin 4096) : ∃ c r, at16 c r = k :=
  ⟨⟨k.val / 256, by omega⟩, ⟨k.val % 256, by omega⟩, Fin.ext (by simp only [at16]; omega)⟩

section

variable (x : FVec Ideal ⟨2, ![4096, 4096]⟩ .f32) (w : FVec Ideal S4096x2048 .f32)

/-- The activations of device `c`: its columns. -/
def X (c : Dev nD) : Vec Ideal S4096x256 .f32 := Layout.block ⟨2, ![4096, 256]⟩ ⟨2, ![4096, 4096]⟩ 1 16 c x
/-- The weights of every device: all of them. -/
def W (_ : Dev nD) : Vec Ideal S4096x2048 .f32 := w

theorem X_at (c : Fin 16) (r : Fin 4096) (l : Fin 256) : X x c (ix2 r l) = x (ix2 r (at16 c l)) := by
  unfold X
  rw [Layout.block_apply]
  refine congrArg x (funext fun d => ?_)
  match d with
  | ⟨0, _⟩ => rfl
  | ⟨1, _⟩ => exact Fin.ext (congrArg (· + l.val) (Nat.mul_comm c.val 256))

theorem slotV_at (c j : Fin 16) (a k : Fin 256) : slotV (X x) c j (ix3 0 a k) = x (ix2 (at16 c a) (at16 j k)) := by
  have e : slabIx c a k = ix2 (at16 c a) k := (ix2_eq_valueIdx _ _).symm
  unfold slotV xbf
  exact (congrArg (k0_pay2 (X x j)) e).trans ((pay2_at _ _ _).trans (X_at x j _ _))

theorem wV_at (c j : Fin 16) (k : Fin 256) (b : Fin 2048) : wV (W w) c j (ix2 k b) = w (ix2 (at16 j k) b) :=
  congrArg w (ix2_eq_valueIdx _ _).symm

/-- Device `j`'s share of an element of the product. -/
noncomputable def term (c : Fin 16) (a : Fin 256) (b : Fin 2048) (j : Fin 16) : EReal :=
  ∑ k : Fin 256, x (ix2 (at16 c a) (at16 j k)) * w (ix2 (at16 j k) b)

theorem yAcc_at (c : Dev nD) (a : Fin 256) (b : Fin 2048) (n : ℕ) :
    yAcc (X x) (W w) c n (ix2 a b) = term x w c a b c + ∑ t ∈ Finset.range n, term x w c a b (src c t) := by
  induction n with
  | zero =>
    rw [Finset.range_zero, Finset.sum_empty, add_zero]
    unfold yAcc
    rw [pay4_at]
    exact Finset.sum_congr rfl fun k _ => by rw [slotV_at, wV_at]
  | succ n ih =>
    rw [Finset.sum_range_succ, ← add_assoc, ← ih, yAcc, pay5_at]
    refine congrArg _ (Finset.sum_congr rfl fun k _ => ?_)
    rw [slotV_at, wV_at]

/-- The accumulated block is the device's rows of the whole product. -/
theorem yV_at (c : Fin 16) (a : Fin 256) (b : Fin 2048) :
    yV (X x) (W w) c (ix2 a b) = Cert.ReferenceIdeal.Value.prod x w (ix2 (at16 c a) b) := by
  rw [Cert.ReferenceIdeal.Value.prod_at, sum_at16]
  refine (yAcc_at x w c a b 15).trans ?_
  rw [← Finset.sum_image (f := fun j => term x w c a b j) (fun t ht t' ht' e => injOn_src c ht ht' e), image_src]
  exact Finset.add_sum_erase Finset.univ (fun j => term x w c a b j) (Finset.mem_univ c)

theorem fold_eq_sup {ι : Type} (s : Finset ι) (f : ι → EReal) : s.fold max ⊥ f = s.sup f := rfl

theorem amaxAll_at (c : Fin 16) (l : Fin 128) : amaxAll (X x) (W w) (ix2 c l) =
    (Finset.univ : Finset (Fin 256 × Fin 2048)).sup fun k =>
      max (Cert.ReferenceIdeal.Value.prod x w (ix2 (at16 c k.1) k.2)) (-Cert.ReferenceIdeal.Value.prod x w (ix2 (at16 c k.1) k.2)) := by
  unfold amaxAll
  rw [pay6_at, fold_eq_sup]
  exact Finset.sup_congr rfl fun k _ => by
    rw [← yV_at]; rfl

/-- The greatest of the blocks' greatest values is the greatest of all. -/
theorem sup_blocks {α β κ μ : Type} [Fintype α] [Fintype β] [Fintype κ] [Fintype μ] [Nonempty β]
    (G : α × β → EReal) (H : α → κ → EReal) (F : μ → EReal) (hG : ∀ c l, G (c, l) = Finset.univ.sup (H c))
    (hH : ∀ c k, ∃ q, H c k = F q) (hF : ∀ q, ∃ c k, F q = H c k) :
    Finset.univ.sup G = Finset.univ.sup F := by
  apply le_antisymm <;> refine Finset.sup_le fun p _ => ?_
  · obtain ⟨c, l⟩ := p
    rw [hG]
    refine Finset.sup_le fun k _ => ?_
    obtain ⟨q, e⟩ := hH c k
    rw [e]
    exact Finset.le_sup (Finset.mem_univ q)
  · obtain ⟨c, k, e⟩ := hF p
    obtain ⟨l⟩ := (inferInstance : Nonempty β)
    refine le_trans ?_ (Finset.le_sup (f := G) (Finset.mem_univ (c, l)))
    rw [hG, e]
    exact Finset.le_sup (f := H c) (Finset.mem_univ k)

/-- The scale every device computes is the reference's. -/
theorem scale_eq : k0_pay7 (amaxAll (X x) (W w)) = Cert.ReferenceIdeal.Value.scale (Cert.ReferenceIdeal.Value.prod x w) ix0 := by
  rw [pay7_at, Cert.ReferenceIdeal.Value.scale_at, fold_eq_sup, fold_eq_sup]
  have key : ∀ u v : EReal, u = v → Ideal.div u ((448 : ℝ) : EReal) = Ideal.div v ((448 : ℝ) : EReal) := fun u v e => by rw [e]
  apply key
  refine sup_blocks _ _ _ (amaxAll_at x w) (fun c k => ⟨(at16 c k.1, k.2), rfl⟩) fun q => ?_
  obtain ⟨c, r, e⟩ := at16_surj q.1
  refine ⟨c, (r, q.2), ?_⟩
  rw [e]

/-- The device's result at every element. -/
theorem outV_at (c : Fin 16) (a : Fin 256) (b : Fin 2048) :
    outV (X x) (W w) c (ix2 a b) =
      (let Y := Cert.ReferenceIdeal.Value.prod x w
       let s := Cert.ReferenceIdeal.Value.scale Y ix0
       quant (Ideal.div (Y (ix2 (at16 c a) b)) s) s) := by
  unfold outV
  refine (pay1_at _ _ _ _ a b (pay9_at _ _ a b) (pay11_at _ _ a b)).trans ?_
  rw [pay8_at, yV_at, scale_eq]

end

/-- Device `c`'s result is its rows of the reference's result. -/
theorem outV_eq (m' : (ℓ : Loc Cert.ReferenceIdeal.nD Cert.ReferenceIdeal.τ Cert.ReferenceIdeal.sig) → Buf (Elt Ideal) ℓ)
    (c : Dev nD) :
    outV (X (m' (((0 : Dev Cert.ReferenceIdeal.nD).tc : Thread Cert.ReferenceIdeal.nD Cert.ReferenceIdeal.τ).loc Cert.ReferenceIdeal.main_arg0)))
        (W (m' (((0 : Dev Cert.ReferenceIdeal.nD).tc : Thread Cert.ReferenceIdeal.nD Cert.ReferenceIdeal.τ).loc Cert.ReferenceIdeal.main_arg1))) c
      = Layout.block ⟨2, ![256, 2048]⟩ ⟨2, ![4096, 2048]⟩ 0 16 c (Cert.ReferenceIdeal.Value.res_main_v24 (F := Ideal) m' 0) := by
  refine funext fun (i : S256x2048.Idx) => ?_
  idx_vars i
  rw [outV_at, Layout.block_apply]
  refine ((congrArg _ (funext fun d => ?_)).trans (Cert.ReferenceIdeal.Value.res_at m' 0 (at16 c i0) i1)).symm
  match d with
  | ⟨0, _⟩ => exact Fin.ext (congrArg (· + i0.val) (Nat.mul_comm c.val 256))
  | ⟨1, _⟩ => rfl

end Cert.Value
-- ==== Proof.lean ====
/-
The claims, assembled: the two kernel programs' frames and the ideal one's value from `Launch` and its twin for the
printed program, the reference's from its generated run.
-/
module

public import proofs.«01_k».proof.Defs
public import proofs.«01_k».proof.Proof.Launch
public import proofs.«01_k».proof.Proof.PrintedLaunch
public import proofs.«01_k».proof.Proof.Value
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

theorem quiescent_kernel : Cert.quiescent_Kernel := fun m g _ =>
  θ_run_mono (Cert.Kernel.Net.run_all (F := Bits) m g) fun _ h => ⟨fun c => (h.1 c).2, h.2⟩

theorem quiescent_kernelIdeal : Cert.quiescent_KernelIdeal := fun m g _ =>
  θ_run_mono (Cert.KernelIdeal.Net.run_all (F := Ideal) m g) fun _ h => ⟨fun c => (h.1 c).2, h.2⟩

theorem quiescent_referenceIdeal : Cert.quiescent_ReferenceIdeal := fun m g _ =>
  θ_run_mono (Cert.ReferenceIdeal.Value.run (F := Ideal) m g) fun r h =>
    ⟨fun c => (h c).2, sem_eq_zero_of_no_sems (by decide) r.2⟩

theorem preserves : Cert.preserves_Kernel_KernelIdeal :=
  ⟨IdealRules.named_const.statement _ _ _ _ _ rfl, IdealRules.sign_bit.statement _ _⟩

theorem algebraic : Cert.algebraic_KernelIdeal_ReferenceIdeal := fun m g m' g' _ hin =>
  ⟨Cert.ReferenceIdeal.Value.res_main_v24 (F := Ideal) m' 0,
    θ_run_mono (Cert.KernelIdeal.Net.run_all (F := Ideal) m g) fun _ h c =>
      ⟨(h.1 c).1.trans ((congrArg₂ (fun X W => Cert.KernelIdeal.Net.outV X W c) (funext fun d => (hin d).1) (funext fun d => (hin d).2)).trans
        (Cert.Value.outV_eq m' c)), (h.1 c).2⟩,
    θ_run_mono (Cert.ReferenceIdeal.Value.run (F := Ideal) m' g') fun _ h => h 0⟩

theorem claim : Cert.Claim :=
  ⟨Cert.Kernel.Gen.facts, Cert.KernelIdeal.Gen.facts, Cert.ReferenceIdeal.Gen.facts,
    quiescent_kernel, quiescent_kernelIdeal, quiescent_referenceIdeal, preserves, algebraic⟩

end Cert.Proof

end
